-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩
abbrev S2x128x4x64 : Shape := ⟨4, ![2, 128, 4, 64]⟩
abbrev S2x4x128x64 : Shape := ⟨4, ![2, 4, 128, 64]⟩
abbrev S8x128x64 : Shape := ⟨3, ![8, 128, 64]⟩
abbrev S6x128x512 : Shape := ⟨3, ![6, 128, 512]⟩
abbrev S4 : Shape := ⟨1, ![4]⟩
abbrev S256x256 : Shape := ⟨2, ![256, 256]⟩
abbrev S128x128 : Shape := ⟨2, ![128, 128]⟩
abbrev S128x512 : Shape := ⟨2, ![128, 512]⟩
abbrev S128x64 : Shape := ⟨2, ![128, 64]⟩
abbrev S1x128x64 : Shape := ⟨3, ![1, 128, 64]⟩
abbrev S128 : Shape := ⟨1, ![128]⟩
abbrev S128x1 : Shape := ⟨2, ![128, 1]⟩
abbrev S64x512 : Shape := ⟨2, ![64, 512]⟩
abbrev S1x128x512 : Shape := ⟨3, ![1, 128, 512]⟩
abbrev S1 : Shape := ⟨1, ![1]⟩

abbrev nBuf : Space → Nat
  | .hbm => 39
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x512, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x128x4x64, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x128x4x64, .bf16⟩
  | .hbm, ⟨34, _⟩ => ⟨S2x4x128x64, .bf16⟩
  | .hbm, ⟨35, _⟩ => ⟨S8x128x64, .bf16⟩
  | .hbm, ⟨36, _⟩ => ⟨S2x4x128x64, .bf16⟩
  | .hbm, ⟨37, _⟩ => ⟨S8x128x64, .bf16⟩
  | .hbm, ⟨38, _⟩ => ⟨S2x128x512, .f32⟩
  | .local _ .vmem, ⟨0, _⟩ => ⟨S256x512, .bf16⟩
  | .local _ .vmem, ⟨1, _⟩ => ⟨S512x256, .bf16⟩
  | .local _ .vmem, ⟨2, _⟩ => ⟨S8x128x64, .bf16⟩
  | .local _ .vmem, ⟨3, _⟩ => ⟨S8x128x64, .bf16⟩
  | .local _ .vmem, ⟨4, _⟩ => ⟨S256x512, .bf16⟩
  | .local _ .vmem, ⟨5, _⟩ => ⟨S2x128x512, .f32⟩
  | .local _ .vmem, ⟨6, _⟩ => ⟨S6x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_96 : BitVec 32 := 1#32
  let v210 : BitVec 32 := Scalar.muli v3 c1_i32_96
  let v211 : BitVec 32 := Scalar.addi c0_i32_97 v210
  v211.toNat
def k0_dev4 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_166 : BitVec 32 := 1#32
  let v329 : BitVec 32 := Scalar.muli v4 c1_i32_166
  let v330 : BitVec 32 := Scalar.addi c0_i32_167 v329
  v330.toNat
def k0_dev5 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_195 : BitVec 32 := 1#32
  let v355 : BitVec 32 := Scalar.muli v4 c1_i32_195
  let v356 : BitVec 32 := Scalar.addi c0_i32_196 v355
  v356.toNat
def k0_dev6 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_223 : BitVec 32 := 1#32
  let v381 : BitVec 32 := Scalar.muli v3 c1_i32_223
  let v382 : BitVec 32 := Scalar.addi c0_i32_224 v381
  v382.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 142
  | .vmem => 0
  | .smem => 0
  | _ => 0

abbrev hbmTy0_0 (i : Nat) : BufTy := match i % 128 with
  | 0 => ⟨S2x128x512, .bf16⟩
  | 1 => ⟨S512x1024, .bf16⟩
  | 2 => ⟨S2x128x16x64, .bf16⟩
  | 3 => ⟨S2x128x16x64, .bf16⟩
  | 4 => ⟨S1024x512, .bf16⟩
  | 5 => ⟨S2x128x1024, .f32⟩
  | 6 => ⟨S2x128x1024, .bf16⟩
  | 7 => ⟨S2x128x16x64, .bf16⟩
  | 8 => ⟨S128, .i32⟩
  | 9 => ⟨S_, .i32⟩
  | 10 => ⟨S_, .i32⟩
  | 11 => ⟨S128, .i32⟩
  | 12 => ⟨S128, .i32⟩
  | 13 => ⟨S128, .i32⟩
  | 14 => ⟨S_, .i32⟩
  | 15 => ⟨S128, .i32⟩
  | 16 => ⟨S128, .i1⟩
  | 17 => ⟨S128, .i32⟩
  | 18 => ⟨S128, .i32⟩
  | 19 => ⟨S_, .i32⟩
  | 20 => ⟨S128, .i32⟩
  | 21 => ⟨S128, .i1⟩
  | 22 => ⟨S128, .i1⟩
  | 23 => ⟨S_, .i32⟩
  | 24 => ⟨S128, .i32⟩
  | 25 => ⟨S128, .i32⟩
  | 26 => ⟨S128, .i32⟩
  | 27 => ⟨S128x1, .i32⟩
  | 28 => ⟨S128, .i32⟩
  | 29 => ⟨S_, .i32⟩
  | 30 => ⟨S_, .i32⟩
  | 31 => ⟨S128, .i32⟩
  | 32 => ⟨S128, .i32⟩
  | 33 => ⟨S128, .i32⟩
  | 34 => ⟨S_, .i32⟩
  | 35 => ⟨S128, .i32⟩
  | 36 => ⟨S128, .i1⟩
  | 37 => ⟨S128, .i32⟩
  | 38 => ⟨S128, .i32⟩
  | 39 => ⟨S_, .i32⟩
  | 40 => ⟨S128, .i32⟩
  | 41 => ⟨S128, .i1⟩
  | 42 => ⟨S128, .i1⟩
  | 43 => ⟨S_, .i32⟩
  | 44 => ⟨S128, .i32⟩
  | 45 => ⟨S128, .i32⟩
  | 46 => ⟨S128, .i32⟩
  | 47 => ⟨S1x128, .i32⟩
  | 48 => ⟨S128x128, .i32⟩
  | 49 => ⟨S128x128, .i32⟩
  | 50 => ⟨S128x128, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x128, .i32⟩
  | 58 => ⟨S1x128, .i32⟩
  | 59 => ⟨S_, .i32⟩
  | 60 => ⟨S1x128, .i32⟩
  | 61 => ⟨S1x128, .i1⟩
  | 62 => ⟨S_, .i32⟩
  | 63 => ⟨S1x128, .i32⟩
  | 64 => ⟨S1x128, .i1⟩
  | 65 => ⟨S_, .i32⟩
  | 66 => ⟨S_, .i1⟩
  | 67 => ⟨S1x128, .i1⟩
  | 68 => ⟨S1x128, .i1⟩
  | 69 => ⟨S1x128, .i1⟩
  | 70 => ⟨S1x128, .i32⟩
  | 71 => ⟨S1x128, .i32⟩
  | 72 => ⟨S1x128, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S128x1, .i32⟩
  | 80 => ⟨S128x1, .i32⟩
  | 81 => ⟨S_, .i32⟩
  | 82 => ⟨S128x1, .i32⟩
  | 83 => ⟨S128x1, .i1⟩
  | 84 => ⟨S_, .i32⟩
  | 85 => ⟨S128x1, .i32⟩
  | 86 => ⟨S128x1, .i1⟩
  | 87 => ⟨S_, .i32⟩
  | 88 => ⟨S_, .i1⟩
  | 89 => ⟨S128x1, .i1⟩
  | 90 => ⟨S128x1, .i1⟩
  | 91 => ⟨S128x1, .i1⟩
  | 92 => ⟨S128x1, .i32⟩
  | 93 => ⟨S128x1, .i32⟩
  | 94 => ⟨S128x1, .i32⟩
  | 95 => ⟨S128x128, .i32⟩
  | 96 => ⟨S128x128, .i32⟩
  | 97 => ⟨S128x128, .i1⟩
  | 98 => ⟨S128x128, .i1⟩
  | 99 => ⟨S2x16x128x128, .f32⟩
  | 100 => ⟨S2x16x128x128, .bf16⟩
  | 101 => ⟨S2x16x128x128, .f32⟩
  | 102 => ⟨S_, .f32⟩
  | 103 => ⟨S2x16x128x128, .f32⟩
  | 104 => ⟨S2x16x128x128, .f32⟩
  | 105 => ⟨S1x1x128x128, .i1⟩
  | 106 => ⟨S_, .f32⟩
  | 107 => ⟨S_, .f32⟩
  | 108 => ⟨S2x16x128x128, .i1⟩
  | 109 => ⟨S2x16x128x128, .f32⟩
  | 110 => ⟨S2x16x128x128, .f32⟩
  | 111 => ⟨S_, .f32⟩
  | 112 => ⟨S2x16x128, .f32⟩
  | 113 => ⟨S2x16x128x1, .f32⟩
  | 114 => ⟨S2x16x128x128, .f32⟩
  | 115 => ⟨S2x16x128x128, .f32⟩
  | 116 => ⟨S2x16x128x128, .f32⟩
  | 117 => ⟨S_, .i1⟩
  | 118 => ⟨S128, .i1⟩
  | 119 => ⟨S1x1x128x1, .i1⟩
  | 120 => ⟨S_, .f32⟩
  | 121 => ⟨S2x16x128, .f32⟩
  | 122 => ⟨S2x16x128x1, .f32⟩
  | 123 => ⟨S_, .f32⟩
  | 124 => ⟨S_, .f32⟩
  | 125 => ⟨S2x16x128x1, .i1⟩
  | 126 => ⟨S2x16x128x1, .f32⟩
  | 127 => ⟨S2x16x128x1, .f32⟩
  | _ => ⟨S2x128x512, .bf16⟩

abbrev hbmTy0_1 (i : Nat) : BufTy := match i % 128 with
  | 0 => ⟨S2x16x128x128, .f32⟩
  | 1 => ⟨S2x16x128x128, .f32⟩
  | 2 => ⟨S1x1x128x1, .i1⟩
  | 3 => ⟨S_, .f32⟩
  | 4 => ⟨S_, .f32⟩
  | 5 => ⟨S2x16x128x128, .i1⟩
  | 6 => ⟨S2x16x128x128, .f32⟩
  | 7 => ⟨S2x16x128x128, .f32⟩
  | 8 => ⟨S2x128x16x64, .f32⟩
  | 9 => ⟨S2x16x64x128, .f32⟩
  | 10 => ⟨S2x128x16x64, .f32⟩
  | 11 => ⟨S2x128x1024, .f32⟩
  | 12 => ⟨S1024x512, .f32⟩
  | 13 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Slots.lean ====
/-
# The communication buffer as six slots

The kernel's scratch buffer holds six blocks of 128 × 512; every load, store and transfer touches exactly one of
them. This module says which indices a slot has, and that on a slot a load reads, a store leaves and a transfer
carries one block, named independently of the slot it lies in.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Launch
public import Idealize.ShloMosaic.Lib.Pipeline.Kit
public import Idealize.ShloMosaic.Lib.Pipeline.RegionTalk
public import Idealize.ShloMosaic.Lib.Writes
public import Idealize.ShloMosaic.Lib.ViewIndex
public import Idealize.ShloMosaic.Lib.Tactic

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The scratch buffer, whole. -/
abbrev cM : Memref sig .tc .vmem S6x128x512 .bf16 := Memref.whole cc0_scratch0

/-- Slot `k` of the scratch buffer as a rectangle. -/
abbrev slR (k : ℕ) (inb : ∀ a, (![k, 0, 0] : Fin 3 → ℕ) a + S1x128x512.size a ≤ S6x128x512.size a) : Rect S6x128x512 :=
  Rect.unit (s := S6x128x512) ![k, 0, 0] S1x128x512.size inb

/-- Slot `k` as the transfers name it: the rectangle with its leading unit axis dropped. -/
abbrev slM (k : ℕ) (inb : ∀ a, (![k, 0, 0] : Fin 3 → ℕ) a + S1x128x512.size a ≤ S6x128x512.size a) : Memref sig .tc .vmem S128x512 .bf16 :=
  (cM.slice (slR k inb) (fun _ => rfl)).squeeze S128x512 squeezes_S1x128x512_S128x512

/-- A block of one slot. -/
abbrev Blk (F : FTy → Type) : Type := S1x128x512.Idx → Elt F .bf16

/-- The position inside its slot of an index of the scratch buffer. -/
def lead (i : S6x128x512.Idx) : S1x128x512.Idx := fun a => match a with
  | 0 => (0 : Fin 1)
  | 1 => (i 1 : Fin 128)
  | 2 => (i 2 : Fin 512)

/-- The contents that hold the block `v` in every slot. -/
def bc (v : Blk F) : S6x128x512.Idx → Elt F .bf16 := fun i => v (lead i)

/-- The indices of slot `k`. -/
def slotSet (k : ℕ) : Finset S6x128x512.Idx := Finset.univ.filter fun i => (i 0).val = k

variable {k : ℕ} {inb : ∀ a, (![k, 0, 0] : Fin 3 → ℕ) a + S1x128x512.size a ≤ S6x128x512.size a}

/-- A place lies in the slot that its first coordinate names. -/
theorem mem_slotSet {i : S6x128x512.Idx} : i ∈ slotSet k ↔ (i 0).val = k := by simp [slotSet]

/-- The rectangle of slot `k` covers the indices of slot `k`. -/
theorem slR_set : (slR k inb).set = slotSet k := by
  ext i
  rw [mem_slotSet, Rect.mem_set_unit]
  constructor
  · intro h
    have h0 := h 0
    simp only [Matrix.cons_val_zero] at h0
    have : S1x128x512.size 0 = 1 := rfl
    omega
  · intro h a
    have h1 : (i 1).val < 128 := (i 1).isLt
    have h2 : (i 2).val < 512 := (i 2).isLt
    match a with
    | 0 => exact ⟨by show k ≤ _; omega, by show _ < k + 1; omega⟩
    | 1 => exact ⟨Nat.zero_le _, by show _ < 0 + 128; omega⟩
    | 2 => exact ⟨Nat.zero_le _, by show _ < 0 + 512; omega⟩

/-- A load or store of slot `k` touches the slot's indices. -/
theorem access_set : (cM.access (slR k inb)).set = slotSet k := (View.set_slice_whole _ _).trans slR_set

/-- A transfer at slot `k` touches the slot's indices. -/
theorem slM_set : (slM k inb).view.set = slotSet k := (Memref.set_view_squeeze _ _).trans access_set

/-- An element of the slot's rectangle sits inside the slot where it sits in the rectangle. -/
theorem lead_emb (x : S1x128x512.Idx) : lead ((cM.access (slR k inb)).emb x) = x := by
  funext a
  match a with
  | 0 => exact Subsingleton.elim (α := Fin 1) _ _
  | 1 => exact Fin.ext (by show 0 + 1 * (x 1).val = _; simp)
  | 2 => exact Fin.ext (by show 0 + 1 * (x 2).val = _; simp)

/-- A load of slot `k` reads the block it holds. -/
theorem read_bc (v : Blk F) : (cM.access (slR k inb)).read (Elt F) (bc v) = v := by
  funext x
  rw [View.read_apply]
  exact congrArg v (lead_emb x)

/-- A load of a slot reads what fills it. -/
theorem readAt_bc (v : Blk F) : cM.view.readAt (Elt F) (slR k inb).toLoadRect (bc v) = v := read_bc v

/-- A store of the block `w` to slot `k` leaves the slot holding `w`. -/
theorem write_bc (f : S6x128x512.Idx → Elt F .bf16) (w : Blk F) {i : S6x128x512.Idx} (hi : i ∈ slotSet k) :
    (cM.access (slR k inb)).write (Elt F) f w Finset.univ i = bc w i := by
  rw [← access_set (inb := inb)] at hi
  obtain ⟨x, -, rfl⟩ := Finset.mem_map.mp hi
  rw [View.write_emb_of_mem _ _ (Finset.mem_univ _)]
  exact congrArg w (lead_emb x).symm

/-- A transfer from slot `j` holding the block `v` leaves slot `k` holding `v`. -/
theorem copy_bc {j : ℕ} {inbj : ∀ a, (![j, 0, 0] : Fin 3 → ℕ) a + S1x128x512.size a ≤ S6x128x512.size a}
    (f : S6x128x512.Idx → Elt F .bf16) (v : Blk F) {i : S6x128x512.Idx} (hi : i ∈ slotSet k) :
    (slM k inb).view.write (Elt F) f ((slM j inbj).view.read (Elt F) (bc v)) Finset.univ i = bc v i := by
  have e : (slM j inbj).view.read (Elt F) (bc v) = fun y => v (Shape.reshapeEquiv squeezes_S1x128x512_S128x512.numel_eq y) :=
    funext fun y => congrFun (read_bc (inb := inbj) v) _
  rw [e]
  refine (congrFun (View.write_reshape_univ (cM.access (slR k inb)) squeezes_S1x128x512_S128x512.numel_eq f _) i).trans ?_
  simp only [Equiv.apply_symm_apply]
  exact write_bc f v hi

end Cert.AttnProof

end
-- ==== Proof.Talk.lean ====
/-
# The exchange between the devices: cells, schedule, levels

Each device has one barrier cell, four send cells and four receive cells. The barrier of a device is raised once by
each of its two partners; a partner's raise hands over the slots that partner is about to be written in. The receive
cells hand back a slot at the block the sender named; the send cells hand back half of the share of the source slot.
The blocks are a parameter `B`: `B k d` is what device `d` sends with its transfer `k`.
-/
module

public import proofs.«01_k».proof.Proof.Slots
public import Idealize.ShloMosaic.Lib.Rounds

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra: the pipeline's own and the exchange's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The partners -/

/-- The partner of the first direction (the device number's lowest bit flipped). -/
def p1 (c : Dev nD) : Dev nD := (![1, 0, 3, 2] : Fin 4 → Fin 4) c
/-- The partner of the second direction (both bits flipped). -/
def p2 (c : Dev nD) : Dev nD := (![3, 2, 1, 0] : Fin 4 → Fin 4) c

/-- The first partner's first partner is the device. -/
theorem p1_p1 (c : Dev nD) : p1 (p1 c) = c := by revert c; decide
/-- The second partner's second partner is the device. -/
theorem p2_p2 (c : Dev nD) : p2 (p2 c) = c := by revert c; decide

/-- The first signal goes to the first partner. -/
theorem dev1_eq (c : Dev nD) : (⟨k0_dev1 c, k0_dev1_lt c⟩ : Dev nD) = p1 c := by revert c; decide +kernel
/-- The second signal goes to the second partner. -/
theorem dev2_eq (c : Dev nD) : (⟨k0_dev2 c, k0_dev2_lt c⟩ : Dev nD) = p2 c := by revert c; decide +kernel
/-- The first copy goes to the first partner. -/
theorem dev3_eq (c : Dev nD) : (⟨k0_dev3 c, k0_dev3_lt c⟩ : Dev nD) = p1 c := by revert c; decide +kernel
/-- The second copy goes to the second partner. -/
theorem dev4_eq (c : Dev nD) : (⟨k0_dev4 c, k0_dev4_lt c⟩ : Dev nD) = p2 c := by revert c; decide +kernel
/-- The third copy goes to the second partner. -/
theorem dev5_eq (c : Dev nD) : (⟨k0_dev5 c, k0_dev5_lt c⟩ : Dev nD) = p2 c := by revert c; decide +kernel
/-- The fourth copy goes to the first partner. -/
theorem dev6_eq (c : Dev nD) : (⟨k0_dev6 c, k0_dev6_lt c⟩ : Dev nD) = p1 c := by revert c; decide +kernel

/-- The device that transfer `k` goes to, which is also the one transfer `k` comes from. -/
def rp (k : Fin 4) (c : Dev nD) : Dev nD := match k with
  | 0 => p1 c
  | 1 => p2 c
  | 2 => p2 c
  | 3 => p1 c
/-- A copy's receiver has the sender as its own receiver. -/
theorem rp_rp (k : Fin 4) (c : Dev nD) : rp k (rp k c) = c := by revert k c; decide

/-! ## Cells and slots -/

/-- The barrier semaphore, the send semaphores (first four) and the receive semaphores (last four). -/
abbrev barS : Sem sig := barrier0
abbrev osem : Fin 8 → SemLoc sig := fun k => .dma (⟨6 + k.val, by have := k.isLt; show 6 + k.val < 14; omega⟩ : DmaSem sig)
abbrev sendS (k : Fin 4) : SemLoc sig := osem ⟨k.val, by omega⟩
abbrev recvS (k : Fin 4) : SemLoc sig := osem ⟨4 + k.val, by omega⟩
abbrev barCell (c : Dev nD) : GSem nD τ sig := ((c : Thread nD τ), .reg barS)
abbrev sendCell (c : Dev nD) (k : Fin 4) : GSem nD τ sig := ((c : Thread nD τ), sendS k)
abbrev recvCell (c : Dev nD) (k : Fin 4) : GSem nD τ sig := ((c : Thread nD τ), recvS k)

/-- The credit a transfer of one slot pays. -/
abbrev N : ℕ := (slM 0 inb_S6x128x512_S1x128x512_0_0_0).view.dmaCredit
/-- A copy moves something. -/
theorem N_pos : 0 < N := View.dmaCredit_pos _ (by decide)

/-- Slot `k` of device `c` at the share `q`, holding the block `v`. -/
def slotAt (c : Dev nD) (k : ℕ) (q : PosShare TreeShare) (v : Blk F) : sProp 𝕄 :=
  cM.view.loc (c : Thread nD τ) ↦[slotSet k]{q} (bc v)
/-- Slot `k` of device `c`, whole, at some contents. -/
def slotSome (c : Dev nD) (k : ℕ) : sProp 𝕄 :=
  iprop(∃ f : Buf (Elt F) (cM.view.loc (c : Thread nD τ)), cM.view.loc (c : Thread nD τ) ↦[slotSet k]{fullShare} f)

/-- A slot with its contents may be stored in an invariant. -/
instance slotAt_storable (c : Dev nD) (k : ℕ) (q) (v : Blk F) : BI.Storable (upEmb : UEmb _ 𝕄) (slotAt c k q v) := by
  unfold slotAt; infer_instance
/-- So may a slot with any contents. -/
instance slotSome_storable (c : Dev nD) (k : ℕ) : BI.Storable (upEmb : UEmb _ 𝕄) (slotSome (F := F) c k) := by
  unfold slotSome; infer_instance

variable (B : Fin 4 → Dev nD → Blk F)

/-! ## The schedule -/

/-- From the first partner with the barrier unit: its slots 2 and 5. -/
def barPayT (c : Dev nD) : sProp 𝕄 :=
  iprop(slotSome (p1 c) 2 ∗ slotSome (p1 c) 5 ∗ reached ER (recvCell (p1 c) 0) 0 ∗ reached ER (recvCell (p1 c) 3) 0)
/-- From the second partner with the barrier unit: its slots 3 and 4. -/
def barPayF (c : Dev nD) : sProp 𝕄 :=
  iprop(slotSome (p2 c) 3 ∗ slotSome (p2 c) 4 ∗ reached ER (recvCell (p2 c) 1) 0 ∗ reached ER (recvCell (p2 c) 2) 0)
/-- From the own transfer `k`: half of the source slot back. -/
def sendPay (k : Fin 4) (c : Dev nD) : sProp 𝕄 := slotAt c k.val fullShare.left (B k c)
/-- From the partner's transfer `k`: the landing slot at the block sent. -/
def recvPay (k : Fin 4) (c : Dev nD) : sProp 𝕄 := slotAt c (k.val + 2) fullShare (B k (rp k c))

/-- One round: two duties on a barrier cell, one on each send and receive cell. -/
def talkRd : Rounds.Schedule (GSem nD τ sig) Bool 𝕄 where
  duties g r := if r = 0 ∧ g.1.2 = .tc then (if g.2 = .reg barS then Finset.univ else if ∃ k, g.2 = osem k then {false} else ∅) else ∅
  unitless _ := False
  amount g _ _ := if g.2 = .reg barS then 1 else N
  payload g _ d :=
    if g.2 = .reg barS then (if d then barPayT g.1.1 else barPayF g.1.1)
    else if g.2 = sendS 0 then sendPay B 0 g.1.1
    else if g.2 = sendS 1 then sendPay B 1 g.1.1
    else if g.2 = sendS 2 then sendPay B 2 g.1.1
    else if g.2 = sendS 3 then sendPay B 3 g.1.1
    else if g.2 = recvS 0 then recvPay B 0 g.1.1
    else if g.2 = recvS 1 then recvPay B 1 g.1.1
    else if g.2 = recvS 2 then recvPay B 2 g.1.1
    else if g.2 = recvS 3 then recvPay B 3 g.1.1
    else iprop(emp)
  amount_pos g _ _ _ := by
    by_cases h : g.2 = .reg barS
    · rw [if_pos h]; exact Nat.one_pos
    · rw [if_neg h]; exact N_pos

/-- So may whatever a landing hands over. -/
instance talkRd_payload_storable (g : GSem nD τ sig) (r : ℕ) (d : Bool) :
    BI.Storable (upEmb : UEmb _ 𝕄) ((talkRd B).payload g r d) := by
  dsimp only [talkRd]
  unfold barPayT barPayF sendPay recvPay
  (repeat' split) <;> infer_instance

section Sched

variable (c : Dev nD)

/-- The eight semaphores of the copies are different. -/
theorem osem_inj : Function.Injective osem := by decide
/-- None of them is the barrier. -/
theorem osem_ne_bar : ∀ k : Fin 8, osem k ≠ .reg barS := fun k h => by cases h

/-- A barrier cell waits for two signals. -/
theorem duties_bar : (talkRd B).duties (barCell c) 0 = Finset.univ := by
  dsimp only [talkRd]; rw [if_pos ⟨rfl, rfl⟩, if_pos rfl]
/-- A copy's cell waits for one landing. -/
theorem duties_own (k : Fin 8) : (talkRd B).duties ((c : Thread nD τ), osem k) 0 = {false} := by
  dsimp only [talkRd]; rw [if_pos ⟨rfl, rfl⟩, if_neg (osem_ne_bar k), if_pos ⟨k, rfl⟩]
/-- There is one round only. -/
theorem duties_later (g : GSem nD τ sig) : ∀ r, 1 ≤ r → (talkRd B).duties g r = ∅ :=
  fun r hr => by dsimp only [talkRd]; rw [if_neg (fun h => by omega)]

/-- A signal counts one. -/
theorem amount_bar (d : Bool) : (talkRd B).amount (barCell c) 0 d = 1 := by dsimp only [talkRd]; exact if_pos rfl
/-- A landing counts a slot's worth. -/
theorem amount_own (k : Fin 8) (d : Bool) : (talkRd B).amount ((c : Thread nD τ), osem k) 0 d = N := by
  dsimp only [talkRd]; exact if_neg (osem_ne_bar k)

/-- A barrier cell expects two. -/
theorem expect_bar : (talkRd B).expect (barCell c) 0 = 2 := by
  unfold Schedule.expect Schedule.amountOf
  rw [duties_bar, Finset.sum_congr rfl fun d _ => amount_bar B c d]; rfl
/-- A copy's cell expects a slot's worth. -/
theorem expect_own (k : Fin 8) : (talkRd B).expect ((c : Thread nD τ), osem k) 0 = N := by
  unfold Schedule.expect Schedule.amountOf; rw [duties_own, Finset.sum_singleton, amount_own]

/-- What one partner's signal hands over. -/
theorem payload_barT : (talkRd B).payload (barCell c) 0 true = barPayT c := by
  dsimp only [talkRd]; rw [if_pos rfl, if_pos rfl]
/-- What the other's does. -/
theorem payload_barF : (talkRd B).payload (barCell c) 0 false = barPayF c := by
  dsimp only [talkRd]; rw [if_pos rfl, if_neg (by decide)]
/-- What the end of a send hands back. -/
theorem payload_send (k : Fin 4) (d : Bool) : (talkRd B).payload (sendCell c k) 0 d = sendPay B k c := by
  dsimp only [talkRd]; rw [if_neg (osem_ne_bar _)]
  fin_cases k
  · exact if_pos rfl
  · exact (if_neg (by decide)).trans (if_pos rfl)
  · exact (if_neg (by decide)).trans ((if_neg (by decide)).trans (if_pos rfl))
  · exact (if_neg (by decide)).trans ((if_neg (by decide)).trans ((if_neg (by decide)).trans (if_pos rfl)))
/-- What a landing hands over. -/
theorem payload_recv (k : Fin 4) (d : Bool) : (talkRd B).payload (recvCell c k) 0 d = recvPay B k c := by
  dsimp only [talkRd]; rw [if_neg (osem_ne_bar _)]
  have h : ∀ j : Fin 4, recvS k ≠ sendS j := by revert k; decide
  rw [if_neg (h 0), if_neg (h 1), if_neg (h 2), if_neg (h 3)]
  fin_cases k
  · exact if_pos rfl
  · exact (if_neg (by decide)).trans (if_pos rfl)
  · exact (if_neg (by decide)).trans ((if_neg (by decide)).trans (if_pos rfl))
  · exact (if_neg (by decide)).trans ((if_neg (by decide)).trans ((if_neg (by decide)).trans (if_pos rfl)))

/-- All that a barrier cell gives. -/
theorem rest_bar : bigSep ((talkRd B).duties (barCell c) 0 \ ∅) (fun d => (talkRd B).payload (barCell c) 0 d) = iprop(barPayT c ∗ barPayF c) := by
  rw [Finset.sdiff_empty, duties_bar, show (Finset.univ : Finset Bool) = {true, false} from rfl, bigSep_insert (by decide), bigSep_singleton, payload_barT, payload_barF]
  rfl
/-- All that a send cell gives. -/
theorem rest_send (k : Fin 4) : bigSep ((talkRd B).duties (sendCell c k) 0 \ ∅) (fun d => (talkRd B).payload (sendCell c k) 0 d) = sendPay B k c := by
  rw [Finset.sdiff_empty, duties_own, bigSep_singleton, payload_send]
/-- All that a receive cell gives. -/
theorem rest_recv (k : Fin 4) : bigSep ((talkRd B).duties (recvCell c k) 0 \ ∅) (fun d => (talkRd B).payload (recvCell c k) 0 d) = recvPay B k c := by
  rw [Finset.sdiff_empty, duties_own, bigSep_singleton, payload_recv]

end Sched

/-! ## What each device owes; the levels -/

/-- Owed after everything but the last transfer is paid, and so on backwards to the launch. -/
def O5 (c : Dev nD) : CellTallies nD τ sig Unit := tallyAt (recvCell (p1 c) 3) () N
def O4 (c : Dev nD) : CellTallies nD τ sig Unit := O5 c + tallyAt (recvCell (p2 c) 2) () N
def O3 (c : Dev nD) : CellTallies nD τ sig Unit := O4 c + tallyAt (recvCell (p2 c) 1) () N
def O2 (c : Dev nD) : CellTallies nD τ sig Unit := O3 c + tallyAt (recvCell (p1 c) 0) () N
def O1 (c : Dev nD) : CellTallies nD τ sig Unit := O2 c + tallyAt (barCell (p2 c)) () 1
def O₀ (c : Dev nD) : CellTallies nD τ sig Unit := O1 c + tallyAt (barCell (p1 c)) () 1

def L (g : GSem nD τ sig) : Finset Unit := if g.1.2 = .tc then {()} else ∅
/-- Barrier cells at 1, the receive cells of the first two transfers at 2, of the last two at 3, the rest at 0. -/
def lv (g : GSem nD τ sig) (_ : Unit) : ℕ :=
  if g.2 = .reg barS then 1 else if g.2 = recvS 0 ∨ g.2 = recvS 1 then 2 else if g.2 = recvS 2 ∨ g.2 = recvS 3 then 3 else 0

/-- Only the tensor cores' cells are counted. -/
theorem L_of_ne (g : GSem nD τ sig) (h : g.1.2 ≠ .tc) : L g = ∅ := if_neg h
/-- Those are. -/
theorem L_tc (c : Dev nD) (sm : SemLoc sig) : L ((c : Thread nD τ), sm) = {()} := if_pos rfl

/-- The barrier lies at level one. -/
theorem lv_bar (c : Dev nD) (u : Unit) : lv (barCell c) u = 1 := if_pos rfl
/-- The first two copies lie at level two, the last two at level three. -/
theorem lv_recv (c : Dev nD) (k : Fin 4) (u : Unit) : lv (recvCell c k) u = if k.val < 2 then 2 else 3 := by
  exact (if_neg (osem_ne_bar _)).trans ((by decide : ∀ k : Fin 4, (if recvS k = recvS 0 ∨ recvS k = recvS 1 then 2
    else if recvS k = recvS 2 ∨ recvS k = recvS 3 then 3 else 0) = if k.val < 2 then 2 else 3) k)

/-- `O` owes only to cells of cores, all of level above `n`. -/
def Above (n : ℕ) (O : CellTallies nD τ sig Unit) : Prop := ∀ g u, 0 < O g u → u ∈ L g ∧ n < lv g u

/-- What is owed at one high cell is high. -/
theorem above_tally {n k : ℕ} {c : Dev nD} {sm : SemLoc sig} (h : n < lv ((c : Thread nD τ), sm) ()) :
    Above n (tallyAt ((c : Thread nD τ), sm) () k) := fun g u hg => by
  rw [tallyAt_apply] at hg
  split at hg
  · next e => rw [e.1, L_tc]; exact ⟨Finset.mem_singleton_self _, h⟩
  · exact absurd hg (Nat.lt_irrefl 0)
/-- High and high is high. -/
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg

/-- What is owed before the last copy lies above level two. -/
theorem above_O5 (c : Dev nD) : Above 2 (O5 c) := above_tally (by rw [lv_recv]; decide)
/-- Before the last two copies too. -/
theorem above_O4 (c : Dev nD) : Above 2 (O4 c) := above_add (above_O5 c) (above_tally (by rw [lv_recv]; decide))
/-- High above more is high above less. -/
theorem above_mono {n n' : ℕ} (h : n ≤ n') {O : CellTallies nD τ sig Unit} (hO : Above n' O) : Above n O :=
  fun g u hg => ⟨(hO g u hg).1, lt_of_le_of_lt h (hO g u hg).2⟩
/-- What is owed after the signals lies above level one. -/
theorem above_O2 (c : Dev nD) : Above 1 (O2 c) :=
  above_add (above_add (above_mono (by decide) (above_O4 c)) (above_tally (by rw [lv_recv]; decide))) (above_tally (by rw [lv_recv]; decide))
/-- What is owed at the start lies above level zero. -/
theorem above_O₀ (c : Dev nD) : Above 0 (O₀ c) :=
  above_add (above_add (above_mono (by decide) (above_O2 c)) (above_tally (by rw [lv_bar]; decide))) (above_tally (by rw [lv_bar]; decide))

/-- A core may wait at a cell of level `n` or less while it owes only above `n`. -/
theorem mayWait {n : ℕ} {O : CellTallies nD τ sig Unit} (hO : Above n O) (c : Dev nD) (sm : SemLoc sig) (h : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact h) (fun g u hg => (hO g u hg).2)

end Cert.AttnProof

end
-- ==== Proof.Blocks.lean ====
/-
# The blocks the body computes, and its memory steps

`Ins` names the contents of the five staged operands; `blk0`, `blk1` are a device's partial results for the two
batches, as the body computes them from its operands; `sent` adds the sums passed on in the second round. Then one
lemma for each kind of memory step the body takes.
-/
module

public import proofs.«01_k».proof.Proof.Talk
public import Idealize.ShloMosaic.Lib.Pipeline.Launch

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The staged operands of one device: activations, query weights, keys, values, output weights. -/
structure Ins (F : FTy → Type) where
  x : S256x512.Idx → Elt F .bf16
  q : S512x256.Idx → Elt F .bf16
  k : S8x128x64.Idx → Elt F .bf16
  v : S8x128x64.Idx → Elt F .bf16
  o : S256x512.Idx → Elt F .bf16

namespace Ins

variable (I : Ins F)

/-- The loads of the whole activations and query weights. -/
def ldX : Vec F S256x512 .bf16 := (Memref.whole cc0_stg0_0).view.readAt (Elt F) (Rect.unit (s := S256x512) ![0, 0] S256x512.size inb_S256x512_S256x512_0_0).toLoadRect I.x
def ldQ : Vec F S512x256 .bf16 := (Memref.whole cc0_stg1_0).view.readAt (Elt F) (Rect.unit (s := S512x256) ![0, 0] S512x256.size inb_S512x256_S512x256_0_0).toLoadRect I.q
/-- The load of head `j` of the keys. -/
def ldK (j : ℕ) (h : ∀ a, (![j, 0, 0] : Fin 3 → Nat) a + S1x128x64.size a ≤ S8x128x64.size a) : Vec F S1x128x64 .bf16 :=
  (Memref.whole cc0_stg2_0).view.readAt (Elt F) (Rect.unit (s := S8x128x64) ![j, 0, 0] S1x128x64.size h).toLoadRect I.k
/-- The load of head `j` of the values. -/
def ldV (j : ℕ) (h : ∀ a, (![j, 0, 0] : Fin 3 → Nat) a + S1x128x64.size a ≤ S8x128x64.size a) : Vec F S1x128x64 .bf16 :=
  (Memref.whole cc0_stg3_0).view.readAt (Elt F) (Rect.unit (s := S8x128x64) ![j, 0, 0] S1x128x64.size h).toLoadRect I.v
/-- The load of 64 rows of the output weights from row `j`. -/
def ldO (j : ℕ) (h : ∀ a, (![j, 0] : Fin 2 → Nat) a + S64x512.size a ≤ S256x512.size a) : Vec F S64x512 .bf16 :=
  (Memref.whole cc0_stg4_0).view.readAt (Elt F) (Rect.unit (s := S256x512) ![j, 0] S64x512.size h).toLoadRect I.o

/-- The projected queries. -/
def qv : FVec F S256x256 .bf16 := k0_pay1 I.ldX I.ldQ

end Ins

/-- The words of the mask, as the body computes them. -/
def wI : IVec S128x128 32 := iota .tc S128x128 32 [0] iota_S128x128_d0_w32
def w40 : IVec S128x128 32 := k0_pay5 wI k0_pay2 k0_pay3 k0_pay4
def w66 : IVec S128x128 1 := k0_pay7 wI k0_pay2 k0_pay3 k0_pay4
def w68 : BitVec 32 := Scalar.select (Scalar.cmpi .eq 4#32 0#32) 1#32 4#32
/-- The mask. -/
def msk : IVec S128x128 1 := k0_pay11 w40 w66 w68 k0_pay8 k0_pay9 k0_pay10

namespace Ins

variable (I : Ins F)

def a0 : FVec F S128x128 .bf16 := k0_pay13 I.qv w40 w66 w68 k0_pay8 k0_pay9 k0_pay10 (I.ldK 0 inb_S8x128x64_S1x128x64_0_0_0)
def s1 : FVec F S128x512 .f32 :=
  k0_pay14 I.qv msk (k0_pay12 (F := F)) I.a0 (I.ldV 0 inb_S8x128x64_S1x128x64_0_0_0) (I.ldO 0 inb_S256x512_S64x512_0_0)
    (I.ldK 1 inb_S8x128x64_S1x128x64_1_0_0) (I.ldV 1 inb_S8x128x64_S1x128x64_1_0_0) (I.ldO 64 inb_S256x512_S64x512_64_0)
def l2 : FVec F S128x128 .f32 := k0_pay15 I.qv (I.ldK 2 inb_S8x128x64_S1x128x64_2_0_0)
def s2 : FVec F S128x512 .f32 :=
  k0_pay16 msk I.s1 I.l2 (I.ldV 2 inb_S8x128x64_S1x128x64_2_0_0) (I.ldO 128 inb_S256x512_S64x512_128_0)
def a3 : FVec F S128x128 .bf16 := k0_pay17 I.qv msk (I.ldK 3 inb_S8x128x64_S1x128x64_3_0_0)
/-- The first batch's partial result. -/
def blk0 : Blk F := k0_pay18 I.s2 I.a3 (I.ldV 3 inb_S8x128x64_S1x128x64_3_0_0) (I.ldO 192 inb_S256x512_S64x512_192_0)
def a4 : FVec F S128x128 .f32 := k0_pay20 I.qv msk (I.ldK 4 inb_S8x128x64_S1x128x64_4_0_0)
def s4 : FVec F S128x512 .f32 :=
  k0_pay21 (k0_pay19 (F := F)) I.a4 (I.ldV 4 inb_S8x128x64_S1x128x64_4_0_0) (I.ldO 0 inb_S256x512_S64x512_0_0)
def o5 : FVec F S128x64 .bf16 := k0_pay22 I.qv msk (I.ldK 5 inb_S8x128x64_S1x128x64_5_0_0) (I.ldV 5 inb_S8x128x64_S1x128x64_5_0_0)
def s6 : FVec F S128x512 .f32 :=
  k0_pay23 I.qv msk I.s4 I.o5 (I.ldO 64 inb_S256x512_S64x512_64_0) (I.ldK 6 inb_S8x128x64_S1x128x64_6_0_0)
    (I.ldV 6 inb_S8x128x64_S1x128x64_6_0_0) (I.ldO 128 inb_S256x512_S64x512_128_0)
def l7 : FVec F S128x128 .f32 := k0_pay24 I.qv (I.ldK 7 inb_S8x128x64_S1x128x64_7_0_0)
/-- The second batch's partial result. -/
def blk1 : Blk F :=
  k0_pay25 msk I.s6 I.l7 (Scalar.ofBits .f32 0xCE6E6B28#32) (I.ldV 7 inb_S8x128x64_S1x128x64_7_0_0) (I.ldO 192 inb_S256x512_S64x512_192_0)

end Ins

variable (I : Dev nD → Ins F)

/-- What device `c` sends: its two partial results, then its two sums with the first round's partner. -/
def sent (k : Fin 4) (c : Dev nD) : Blk F := match k with
  | 0 => (I c).blk0
  | 1 => (I c).blk1
  | 2 => k0_pay26 (I c).blk0 (I (p1 c)).blk0
  | 3 => k0_pay27 (I c).blk1 (I (p2 c)).blk1

/-- The two blocks of the result. -/
def res0 (c : Dev nD) : S1x128x512.Idx → Elt F .f32 := k0_pay28 (sent I 2 c) (sent I 2 (p2 c))
def res1 (c : Dev nD) : S1x128x512.Idx → Elt F .f32 := k0_pay30 (k0_pay29 (sent I 3 c)) (sent I 3 (p1 c))

abbrev outM : Memref sig .tc .vmem S2x128x512 .f32 := Memref.whole cc0_stg5_0

/-- The result buffer after both stores, over what it held before. -/
def outv (c : Dev nD) (f : S2x128x512.Idx → Elt F .f32) : S2x128x512.Idx → Elt F .f32 :=
  (outM.access (Rect.unit (s := S2x128x512) ![1, 0, 0] S1x128x512.size inb_S2x128x512_S1x128x512_1_0_0)).write (Elt F)
    ((outM.access (Rect.unit (s := S2x128x512) ![0, 0, 0] S1x128x512.size inb_S2x128x512_S1x128x512_0_0_0)).write (Elt F) f (res0 I c) Finset.univ)
    (res1 I c) Finset.univ

/-! ## Steps -/

abbrev 𝒱₀ : Variants := Variants.none

/-- The whole buffer `b` on device `c` at `f`. -/
abbrev pw (c : Dev nD) (b : Ref sig .tc) (f : Buf (Elt F) ((c : Thread nD τ).loc b)) : sProp 𝕄 :=
  (Memref.whole b).view.loc (c : Thread nD τ) ↦{fullShare} f

/-- A device's five staged operands. -/
def ins (c : Dev nD) (J : Ins F) : sProp 𝕄 :=
  iprop(pw c cc0_stg0_0 J.x ∗ pw c cc0_stg1_0 J.q ∗ pw c cc0_stg2_0 J.k ∗ pw c cc0_stg3_0 J.v ∗ pw c cc0_stg4_0 J.o)

section Steps

variable {α : Type} (c : Dev nD)

/-- A load from a whole staged buffer. -/
theorem load_whole (b : Ref sig .tc) {e : EltTy} {s : Shape} {cs : CoreSpace} {m : Memref sig .tc cs s e} {r : LoadRect s} {hl : m.view.LoadsAt r}
    {f : Buf (Elt F) (m.view.loc (c : Thread nD τ))} {K : (r.shape.Idx → Elt F e) → Prog (TpuEff nD τ sig (Elt F) Λ₀ .tc) α} {Q : α → sProp 𝕄} :
    (m.view.loc (c : Thread nD τ) ↦{fullShare} f)
      ⊢ iprop(((m.view.loc (c : Thread nD τ) ↦{fullShare} f) -∗ wp frame (wpE (defs₀ (F := F)) 𝒱₀ c none) Set.univ (K (m.view.readAt (Elt F) r f)) Q)
        -∗ wp frame (wpE (defs₀ (F := F)) 𝒱₀ c none) Set.univ (.op (.load m r hl) K) Q) :=
  wp_load 𝒱₀ (c : Thread nD τ) none Set.univ (m := m) (Finset.subset_univ _)

variable {k : ℕ} {inb : ∀ a, (![k, 0, 0] : Fin 3 → ℕ) a + S1x128x512.size a ≤ S6x128x512.size a}

/-- A load of a slot reads the block it holds. -/
theorem load_slot {q : PosShare TreeShare} {v : Blk F} {hl : cM.view.LoadsAt (slR k inb).toLoadRect}
    {K : Blk F → Prog (TpuEff nD τ sig (Elt F) Λ₀ .tc) α} {Q : α → sProp 𝕄} :
    slotAt c k q v
      ⊢ iprop((slotAt c k q v -∗ wp frame (wpE (defs₀ (F := F)) 𝒱₀ c none) Set.univ (K v) Q)
        -∗ wp frame (wpE (defs₀ (F := F)) 𝒱₀ c none) Set.univ (.op (.load cM (slR k inb).toLoadRect hl) K) Q) := by
  unfold slotAt
  iintro H HK
  iapply (wp_load_rect 𝒱₀ (c : Thread nD τ) none Set.univ (m := cM) (r := slR k inb) (f := bc v) (subset_of_eq access_set)) $$ H
  rw [read_bc (inb := inb) v]
  iexact HK

/-- A load of a slot whose contents do not matter. -/
theorem load_some {hl : cM.view.LoadsAt (slR k inb).toLoadRect} {K : Blk F → Prog (TpuEff nD τ sig (Elt F) Λ₀ .tc) α} {Q : α → sProp 𝕄} :
    slotSome c k
      ⊢ iprop((∀ w, slotSome c k -∗ wp frame (wpE (defs₀ (F := F)) 𝒱₀ c none) Set.univ (K w) Q)
        -∗ wp frame (wpE (defs₀ (F := F)) 𝒱₀ c none) Set.univ (.op (.load cM (slR k inb).toLoadRect hl) K) Q) := by
  unfold slotSome
  iintro ⟨%f, H⟩ HK
  iapply (wp_load_rect 𝒱₀ (c : Thread nD τ) none Set.univ (m := cM) (r := slR k inb) (subset_of_eq access_set)) $$ H
  iintro H
  iapply HK
  iexists f; iexact H

/-- A store to a slot leaves it holding the block stored. -/
theorem store_slot {w : Blk F} {hx : (cM.access (slR k inb)).Stores Finset.univ} {hm}
    {K : PUnit → Prog (TpuEff nD τ sig (Elt F) Λ₀ .tc) α} {Q : α → sProp 𝕄} :
    slotSome c k
      ⊢ iprop((slotAt c k fullShare w -∗ wp frame (wpE (defs₀ (F := F)) 𝒱₀ c none) Set.univ (K ⟨⟩) Q)
        -∗ wp frame (wpE (defs₀ (F := F)) 𝒱₀ c none) Set.univ (.op (.store cM (slR k inb) w Finset.univ hx hm) K) Q) := by
  unfold slotSome
  iintro ⟨%f, H⟩ HK
  iapply (wp_store 𝒱₀ (c : Thread nD τ) none Set.univ (m := cM) (r := slR k inb) (Mk := Finset.univ) (S := slotSet k) (subset_of_eq access_set)) $$ H
  iintro H
  iapply HK
  unfold slotAt
  iapply (Entails.of_eq (pointsTo_congr fun i hi => write_bc f w hi)) $$ H

/-- A slot at a named block is a slot at some contents; its whole share is two halves. -/
theorem slotAt_some (v : Blk F) : slotAt c k fullShare v ⊢ slotSome c k := by
  unfold slotAt slotSome; iintro H; iexists _; iexact H
/-- A slot held in full is its two halves. -/
theorem slot_halves (v : Blk F) : slotAt c k fullShare v ⊣⊢ iprop(slotAt c k fullShare.left v ∗ slotAt c k fullShare.right v) :=
  pointsTo_share (PosShare.mem_left_op_right fullShare)

end Steps

end Cert.AttnProof

end
-- ==== Proof.Steps.lean ====
/-
# The exchange's steps

The records every device holds (the invariant of every cell, the barrier cells' first round), and one lemma for each
kind of communication step of the body: a barrier raise, the barrier wait, a remote transfer of a slot, a wait at one
of the device's own transfer cells.
-/
module

public import proofs.«01_k».proof.Proof.Blocks
public import Idealize.ShloMosaic.Lib.Pipeline.Launch

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def barEmb : Dev nD ↪ GSem nD τ sig := ⟨fun c => barCell c, fun _ _ h => congrArg (fun g : GSem nD τ sig => g.1.1) h⟩
def ownEmb : Dev nD × Fin 8 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the transfer cells (scoped: they open when the kernel is entered). -/
abbrev barCells : Finset (GSem nD τ sig) := Finset.univ.map barEmb
abbrev ownCells : Finset (GSem nD τ sig) := Finset.univ.map ownEmb

/-- A barrier cell is one of the cells. -/
theorem bar_mem (c : Dev nD) : barCell c ∈ (barCells ∪ ownCells : Finset (GSem nD τ sig)) :=
  Finset.mem_union_left _ (Finset.mem_map_of_mem barEmb (Finset.mem_univ c))
/-- So is a cell of a copy. -/
theorem own_mem (c : Dev nD) (k : Fin 8) : ((c : Thread nD τ), osem k) ∈ (barCells ∪ ownCells : Finset (GSem nD τ sig)) :=
  Finset.mem_union_right _ (Finset.mem_map_of_mem ownEmb (Finset.mem_univ (c, k)))

variable (B : Fin 4 → Dev nD → Blk F)

/-- The records every device may consult: every cell's invariant under one map of names, and that every barrier cell has
    reached its first round. -/
def recs (κ : GSem nD τ sig → ℕ) : sProp 𝕄 :=
  iprop((bigSep (barCells ∪ ownCells) fun g => cellInv ER (talkRd B) (κ g) g) ∗ bigSep barCells fun g => reached ER g 0)

/-- The records of the protocol may be used again and again. -/
instance recs_persistent (κ : GSem nD τ sig → ℕ) : BI.Persistent (recs B κ) := by unfold recs; infer_instance

/-- They hold a barrier cell's invariant. -/
theorem recs_bar (κ) (c : Dev nD) : recs B κ ⊢ iprop(cellInv ER (talkRd B) (κ (barCell c)) (barCell c) ∗ reached ER (barCell c) 0) := by
  unfold recs
  exact BIClass.sep_mono (bigSep_elim (bar_mem c)) (bigSep_elim (Finset.mem_map_of_mem barEmb (Finset.mem_univ c)))
/-- And that of a copy's cell. -/
theorem recs_own (κ) (c : Dev nD) (k : Fin 8) : recs B κ ⊢ cellInv ER (talkRd B) (κ ((c : Thread nD τ), osem k)) ((c : Thread nD τ), osem k) := by
  unfold recs
  exact Laws.sep_elim_left.trans (bigSep_elim (Φ := fun g => cellInv ER (talkRd B) (κ g) g) (own_mem c k))

section Steps

variable {α : Type} (c : Dev nD) (κ : GSem nD τ sig → ℕ)

/-- Raising the barrier of the first partner: hands over the own slots 2 and 5. -/
theorem raise1 {d : Dev nD} (hd : d = p1 c) {O : CellTallies nD τ sig Unit} {W : Waits sig Unit}
    {K : PUnit → Prog (TpuEff nD τ sig (Elt F) Λ₀ .tc) α} {Q : α → sProp 𝕄} :
    iprop(recs B κ ∗ owes (c : Thread nD τ) (O + tallyAt (barCell (p1 c)) () 1) W ∗ dutyTok ER (barCell (p1 c)) 0 true
        ∗ slotSome c 2 ∗ slotSome c 5 ∗ reached ER (recvCell c 0) 0 ∗ reached ER (recvCell c 3) 0)
      ⊢ iprop((owes (c : Thread nD τ) O W -∗ wp frame (wpE (defs₀ (F := F)) 𝒱₀ c none) Set.univ (K ⟨⟩) Q)
          -∗ wp frame (wpE (defs₀ (F := F)) 𝒱₀ c none) Set.univ (.op (.semSignal (d : Thread nD τ) barS (1#32).toInt) K) Q) := by
  subst hd
  iintro ⟨#HR, HO, Ht, H2, H5, #Hr0, #Hr3⟩ HK
  ihave Hb := (recs_bar B κ (p1 c)) $$ HR
  icases Hb with ⟨#HI, #Hr⟩
  iapply (Rounds.wp_signal 𝒱₀ ER (talkRd B) (c : Thread nD τ) none (dst := (p1 c : Thread nD τ)) (sem := barS) (r := 0) (d := true) (k' := 1)
      (κ := κ (barCell (p1 c))) (by rw [duties_bar]; exact Finset.mem_univ _) (amount_bar B (p1 c) true) () O rfl) $$ [HO Ht H2 H5]
  · isplitr; · iexact HI
    isplitl [HO]; · iexact HO
    isplitl [Ht]; · iexact Ht
    isplitl [H2 H5]
    · rw [payload_barT]; unfold barPayT; rw [p1_p1]
      isplitl [H2]; · iexact H2
      isplitl [H5]; · iexact H5
      isplitr; · iexact Hr0
      iexact Hr3
    · iexact Hr
  iexact HK

/-- Raising the barrier of the second partner: hands over the own slots 3 and 4. -/
theorem raise2 {d : Dev nD} (hd : d = p2 c) {O : CellTallies nD τ sig Unit} {W : Waits sig Unit}
    {K : PUnit → Prog (TpuEff nD τ sig (Elt F) Λ₀ .tc) α} {Q : α → sProp 𝕄} :
    iprop(recs B κ ∗ owes (c : Thread nD τ) (O + tallyAt (barCell (p2 c)) () 1) W ∗ dutyTok ER (barCell (p2 c)) 0 false
        ∗ slotSome c 3 ∗ slotSome c 4 ∗ reached ER (recvCell c 1) 0 ∗ reached ER (recvCell c 2) 0)
      ⊢ iprop((owes (c : Thread nD τ) O W -∗ wp frame (wpE (defs₀ (F := F)) 𝒱₀ c none) Set.univ (K ⟨⟩) Q)
          -∗ wp frame (wpE (defs₀ (F := F)) 𝒱₀ c none) Set.univ (.op (.semSignal (d : Thread nD τ) barS (1#32).toInt) K) Q) := by
  subst hd
  iintro ⟨#HR, HO, Ht, H3, H4, #Hr1, #Hr2⟩ HK
  ihave Hb := (recs_bar B κ (p2 c)) $$ HR
  icases Hb with ⟨#HI, #Hr⟩
  iapply (Rounds.wp_signal 𝒱₀ ER (talkRd B) (c : Thread nD τ) none (dst := (p2 c : Thread nD τ)) (sem := barS) (r := 0) (d := false) (k' := 1)
      (κ := κ (barCell (p2 c))) (by rw [duties_bar]; exact Finset.mem_univ _) (amount_bar B (p2 c) false) () O rfl) $$ [HO Ht H3 H4]
  · isplitr; · iexact HI
    isplitl [HO]; · iexact HO
    isplitl [Ht]; · iexact Ht
    isplitl [H3 H4]
    · rw [payload_barF]; unfold barPayF; rw [p2_p2]
      isplitl [H3]; · iexact H3
      isplitl [H4]; · iexact H4
      isplitr; · iexact Hr1
      iexact Hr2
    · iexact Hr
  iexact HK

/-- Waiting at the own barrier for both partners: their slots come with the units. -/
theorem await {O : CellTallies nD τ sig Unit} (hO : Above 1 O) {W : Waits sig Unit}
    {K : PUnit → Prog (TpuEff nD τ sig (Elt F) Λ₀ .tc) α} {Q : α → sProp 𝕄} :
    iprop(recs B κ ∗ levAts L lv ∗ cred (tallyAt (barCell c) () 2) ∗ owes (c : Thread nD τ) O W ∗ atPos ER (barCell c) 0 ∅ 0)
      ⊢ iprop(((∃ W', owes (c : Thread nD τ) O W') ∗ atPos ER (barCell c) (0 + 1) ∅ 0 ∗ barPayT c ∗ barPayF c
            -∗ wp frame (wpE (defs₀ (F := F)) 𝒱₀ c none) Set.univ (K ⟨⟩) Q)
          -∗ wp frame (wpE (defs₀ (F := F)) 𝒱₀ c none) Set.univ (.op (.semWait barS (2#32).toInt) K) Q) := by
  iintro ⟨#HR, #Hlev, Hc, HO, Hat⟩ HK
  ihave Hb := (recs_bar B κ c) $$ HR
  icases Hb with ⟨#HI, -⟩
  iapply (Rounds.wp_wait_rest_token 𝒱₀ ER (talkRd B) (c : Thread nD τ) none (κ := κ (barCell c))
      (wpE_semWait_eq (k := 2) 𝒱₀ (c : Thread nD τ) none Set.univ) (Set.mem_univ _) () (O := O) (W := W) (R := 0) (m := 0) (T := ∅)
      ((Nat.zero_add 2).trans (expect_bar B c).symm)) $$ [Hc HO Hat]
  · isplitr; · iexact HI
    isplitl [Hc]; · iexact Hc
    isplitl [HO]; · iexact HO
    isplitr; · iapply (mayWait hO c (.reg barS) (le_of_eq (lv_bar c ()))); iexact Hlev
    iexact Hat
  iintro ⟨HO, Hat, -, Hpay⟩
  ihave Hp := (Entails.of_eq (rest_bar B c)) $$ Hpay
  icases Hp with ⟨HT, HF⟩
  iapply HK
  isplitl [HO]; · iexists _; iexact HO
  isplitl [Hat]; · iexact Hat
  isplitl [HT] <;> iassumption

/-- A slot's copy moves one slot's worth. -/
theorem slM_credit {j : ℕ} {inb : ∀ a, (![j, 0, 0] : Fin 3 → ℕ) a + S1x128x512.size a ≤ S6x128x512.size a} : (slM j inb).view.dmaCredit = N := rfl

/-- What transfer `k` takes beside its source: the two duties it pays, that their rounds are reached, the landing slot. -/
def gear (k : Fin 4) (c : Dev nD) : sProp 𝕄 :=
  iprop(dutyTok ER (sendCell c k) 0 false ∗ reached ER (sendCell c k) 0
    ∗ dutyTok ER (recvCell (rp k c) k) 0 false ∗ reached ER (recvCell (rp k c) k) 0 ∗ slotSome (rp k c) (k.val + 2))

/-- Transfer `k`: half of the share of the source slot goes with it and comes back at the send cell; the landing slot goes
    to its owner holding the block sent. -/
theorem send (k : Fin 4) {a b : ℕ} (ha : a = k.val) (hb : b = k.val + 2)
    {inba : ∀ i, (![a, 0, 0] : Fin 3 → ℕ) i + S1x128x512.size i ≤ S6x128x512.size i}
    {inbb : ∀ i, (![b, 0, 0] : Fin 3 → ℕ) i + S1x128x512.size i ≤ S6x128x512.size i}
    {d : Dev nD} (hd : d = rp k c) {s r : DmaSem sig} (hs : SemLoc.dma s = sendS k) (hr : SemLoc.dma r = recvS k)
    {h₁ : (slM a inba).view.WordExact} {h₂ : (slM b inbb).view.WordExact} {hc}
    {h₃ : DmaTarget.Typed (nD := nD) (τ := τ) .vmem (.dma r) (.remote (Dev.tc d) (slM b inbb) (.dma s) hc)}
    (O : CellTallies nD τ sig Unit) {W : Waits sig Unit}
    {K : PUnit → Prog (TpuEff nD τ sig (Elt F) Λ₀ .tc) α} {Q : α → sProp 𝕄} :
    iprop(recs B κ ∗ slotAt c a fullShare.left (B k c) ∗ owes (c : Thread nD τ) (O + tallyAt (recvCell (rp k c) k) () N) W ∗ gear k c)
      ⊢ iprop((cred (tallyAt (sendCell c k) () N) ∗ owes (c : Thread nD τ) O W
            -∗ wp frame (wpE (defs₀ (F := F)) 𝒱₀ c none) Set.univ (K ⟨⟩) Q)
          -∗ wp frame (wpE (defs₀ (F := F)) 𝒱₀ c none) Set.univ
              (.op (.enqueueDma (slM a inba) (.remote (Dev.tc d) (slM b inbb) (.dma s) hc) (.dma r) h₁ h₂ h₃) K) Q) := by
  subst ha hb hd
  unfold gear slotSome
  iintro ⟨#HR, Hsrc, HO, Hts, Hrs, Htr, Hrr, ⟨%fd, Hdst⟩⟩ HK
  ihave #Hi1 := (recs_own B κ c ⟨k.val, by omega⟩) $$ HR
  ihave #Hi2 := (recs_own B κ (rp k c) ⟨4 + k.val, by omega⟩) $$ HR
  iapply (Rounds.wp_send_pointsTo 𝒱₀ ER (talkRd B) (c : Thread nD τ) none (c' := (rp k c : Thread nD τ)) (src := slM k.val inba) (dst := slM (k.val + 2) inbb)
      (sS := .dma s) (sem := .dma r) (q := fullShare.left) (fs := bc (B k c)) (κ₁ := κ (sendCell c k)) (κ₂ := κ (recvCell (rp k c) k))
      (r₁ := 0) (r₂ := 0) (d₁ := false) (d₂ := false) (fd := fd)
      (by rw [hs, duties_own]; exact Finset.mem_singleton_self _) (by rw [hr, duties_own]; exact Finset.mem_singleton_self _)
      () () N rfl (by rw [hs]; exact amount_own B c _ _) (by rw [hr]; exact amount_own B (rp k c) _ _) O (by rw [hr]) (W := W)
      (by rw [hs, payload_send, slM_set]; exact BI.Entails.refl _)
      (by
        rw [hr, payload_recv, slM_set]; unfold recvPay slotAt; rw [rp_rp]
        exact Entails.of_eq (pointsTo_congr fun i hi => copy_bc fd (B k c) hi))) $$ [Hsrc Hdst HO Hts Hrs Htr Hrr]
  · rw [hs, hr, slM_set, slM_set]; unfold slotAt
    isplitr; · iexact Hi1
    isplitr; · iexact Hi2
    isplitl [Hsrc]; · iexact Hsrc
    isplitl [Hdst]; · iexact Hdst
    isplitl [HO]; · iexact HO
    isplitl [Hts]; · iexact Hts
    isplitl [Hrs]; · iexact Hrs
    isplitl [Htr] <;> iassumption
  rw [hs]
  iexact HK

/-- Waiting at an own transfer cell: its payload comes back and the cell's one round is over. -/
theorem wait_own (k : Fin 8) {O : CellTallies nD τ sig Unit} {n : ℕ} (hO : Above n O) (hn : lv ((c : Thread nD τ), osem k) () ≤ n) {P : sProp 𝕄}
    (hP : bigSep ((talkRd B).duties ((c : Thread nD τ), osem k) 0 \ ∅) (fun d => (talkRd B).payload ((c : Thread nD τ), osem k) 0 d) = P)
    {a b : ℕ} {inba : ∀ i, (![a, 0, 0] : Fin 3 → ℕ) i + S1x128x512.size i ≤ S6x128x512.size i}
    {inbb : ∀ i, (![b, 0, 0] : Fin 3 → ℕ) i + S1x128x512.size i ≤ S6x128x512.size i}
    {s : DmaSem sig} (hs : SemLoc.dma s = osem k)
    {h₁ : (slM a inba).view.WordExact} {h₂ : (slM b inbb).view.WordExact} {W : Waits sig Unit}
    {K : PUnit → Prog (TpuEff nD τ sig (Elt F) Λ₀ .tc) α} {Q : α → sProp 𝕄} :
    iprop(recs B κ ∗ levAts L lv ∗ cred (tallyAt ((c : Thread nD τ), osem k) () N) ∗ owes (c : Thread nD τ) O W ∗ atPos ER ((c : Thread nD τ), osem k) 0 ∅ 0)
      ⊢ iprop(((∃ W', owes (c : Thread nD τ) O W') ∗ atPos ER ((c : Thread nD τ), osem k) (0 + 1) ∅ 0 ∗ P
            -∗ wp frame (wpE (defs₀ (F := F)) 𝒱₀ c none) Set.univ (K ⟨⟩) Q)
          -∗ wp frame (wpE (defs₀ (F := F)) 𝒱₀ c none) Set.univ (.op (.waitDma2 s (slM a inba) (slM b inbb) h₁ h₂) K) Q) := by
  subst hP
  iintro ⟨#HR, #Hlev, Hc, HO, Hat⟩ HK
  ihave #HI := (recs_own B κ c k) $$ HR
  iapply (Rounds.wp_wait_rest_token 𝒱₀ ER (talkRd B) (c : Thread nD τ) none (κ := κ ((c : Thread nD τ), osem k)) (sm := osem k) (k' := N)
      (fun K => by rw [← hs]; exact wpE_waitDma2_eq 𝒱₀ (c : Thread nD τ) none Set.univ K) (Set.mem_univ _) () (O := O) (W := W) (R := 0) (m := 0) (T := ∅)
      ((Nat.zero_add _).trans (expect_own B c k).symm)) $$ [Hc HO Hat]
  · isplitr; · iexact HI
    isplitl [Hc]; · iexact Hc
    isplitl [HO]; · iexact HO
    isplitr; · iapply (mayWait hO c (osem k) hn); iexact Hlev
    iexact Hat
  iintro ⟨HO, Hat, -, Hpay⟩
  iapply HK
  isplitl [HO]; · iexists _; iexact HO
  isplitl [Hat] <;> iassumption

/-- After its one round a cell closes, its counter back at zero. -/
theorem close (g : GSem nD τ sig) (hg : g ∈ (barCells ∪ ownCells : Finset (GSem nD τ sig))) :
    iprop(recs B κ ∗ atPos ER g (0 + 1) ∅ 0) ⊢ (|={Set.univ}=> semVal g 0 : sProp 𝕄) := by
  refine (sep_mono_left ?_).trans (Rounds.cell_close ER (talkRd B) (Set.mem_univ (κ g)) id (duties_later B g))
  unfold recs
  exact Laws.sep_elim_left.trans (bigSep_elim (Φ := fun g => cellInv ER (talkRd B) (κ g) g) hg)

end Steps

end Cert.AttnProof

end
-- ==== Proof.Parts.lean ====
/-
# The body's parts

One lemma for each part of the body, at any device: from what the part holds, what it holds after and what it returns.
-/
module

public import proofs.«01_k».proof.Proof.Steps
public import Idealize.ShloMosaic.Lib.Pipeline.Launch

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The words naming the two partners, which the body computes and does not use again. -/
abbrev w3 (c : Dev nD) : BitVec 32 := Scalar.xori (Scalar.remsi (Scalar.divsi (Dev.word c) 1#32) 4#32) 1#32
abbrev w4 (c : Dev nD) : BitVec 32 := Scalar.xori (Scalar.remsi (Scalar.divsi (Dev.word c) 1#32) 4#32) 3#32

/-- The result buffer after the store of the first batch, and after the store of the second. -/
def out0 (w : S1x128x512.Idx → Elt F .f32) (f : S2x128x512.Idx → Elt F .f32) : S2x128x512.Idx → Elt F .f32 :=
  (outM.access (Rect.unit (s := S2x128x512) ![0, 0, 0] S1x128x512.size inb_S2x128x512_S1x128x512_0_0_0)).write (Elt F) f w Finset.univ
def out1 (w : S1x128x512.Idx → Elt F .f32) (f : S2x128x512.Idx → Elt F .f32) : S2x128x512.Idx → Elt F .f32 :=
  (outM.access (Rect.unit (s := S2x128x512) ![1, 0, 0] S1x128x512.size inb_S2x128x512_S1x128x512_1_0_0)).write (Elt F) f w Finset.univ

/-- Who owes nothing owes nothing low. -/
theorem above_zero (n : ℕ) : Above n (0 : CellTallies nD τ sig Unit) := fun _ _ h => absurd h (lt_irrefl 0)
/-- A send cell lies at the third level at most. -/
theorem lv_send_le (c : Dev nD) (k : Fin 4) : lv (sendCell c k) () ≤ 3 := by revert k c; decide

variable (B : Fin 4 → Dev nD → Blk F) (c : Dev nD) (κ : GSem nD τ sig → ℕ) (J : Ins F)

/-- The barrier with both partners, and the loads of the activations and the query weights. -/
theorem part1 {Q : (Σ' (_ : Dev nD) (_ : BitVec 32) (_ : BitVec 32) (_ : FVec F S256x256 .bf16) (_ : IVec S128x128 32) (_ : IVec S128x128 32) (_ : IVec S128x128 1), IVec S128x128 32) → sProp 𝕄} :
    iprop((recs B κ ∗ levAts L lv ∗ ins c J ∗ (∃ W, owes (c : Thread nD τ) (O₀ c) W) ∗ atPos ER (barCell c) 0 ∅ 0 ∗ cred (tallyAt (barCell c) () 2)
        ∗ dutyTok ER (barCell (p1 c)) 0 true ∗ dutyTok ER (barCell (p2 c)) 0 false ∗ slotSome c 2 ∗ slotSome c 3 ∗ slotSome c 4 ∗ slotSome c 5
        ∗ reached ER (recvCell c 0) 0 ∗ reached ER (recvCell c 1) 0 ∗ reached ER (recvCell c 2) 0 ∗ reached ER (recvCell c 3) 0)
        ∗ ((ins c J ∗ (∃ W, owes (c : Thread nD τ) (O2 c) W) ∗ atPos ER (barCell c) (0 + 1) ∅ 0 ∗ barPayT c ∗ barPayF c) -∗ Q ⟨c, w3 c, w4 c, J.qv, wI, k0_pay2, k0_pay3, k0_pay4⟩))
      ⊢ wp frame (wpE (defs₀ (F := F)) 𝒱₀ c none) Set.univ (k0_part1 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 ) Q := by
  simp only [k0_part1_eq_skeleton]; unfold k0_part1_skel
  simp only [semSignalWord, semWaitWord, Prog.lift, Prog.bind_op, Prog.bind_ret, Prog.pure_eq_ret, wp_deviceId]
  unfold ins Ins.qv Ins.ldX Ins.ldQ wI
  iintro ⟨⟨#HR, #Hlev, ⟨Hx, Hq, Hk, Hv, Ho⟩, ⟨%W, HO⟩, Hat, Hc, Ht1, Ht2, H2, H3, H4, H5, Hr0, Hr1, Hr2, Hr3⟩, HK⟩
  iapply (raise1 B c κ (dev1_eq c) (O := O1 c) (W := W)) $$ [HO Ht1 H2 H5 Hr0 Hr3]
  · isplitr; · iexact HR
    isplitl [HO]; · iexact HO
    isplitl [Ht1]; · iexact Ht1
    isplitl [H2]; · iexact H2
    isplitl [H5]; · iexact H5
    isplitl [Hr0] <;> iassumption
  iintro HO
  iapply (raise2 B c κ (dev2_eq c) (O := O2 c) (W := W)) $$ [HO Ht2 H3 H4 Hr1 Hr2]
  · isplitr; · iexact HR
    isplitl [HO]; · iexact HO
    isplitl [Ht2]; · iexact Ht2
    isplitl [H3]; · iexact H3
    isplitl [H4]; · iexact H4
    isplitl [Hr1] <;> iassumption
  iintro HO
  iapply (await B c κ (above_O2 c) (W := W)) $$ [HO Hc Hat]
  · isplitr; · iexact HR
    isplitr; · iexact Hlev
    isplitl [Hc]; · iexact Hc
    isplitl [HO] <;> iassumption
  iintro ⟨HO, Hat, HT, HF⟩
  iapply (load_whole c cc0_stg0_0) $$ Hx; iintro Hx
  iapply (load_whole c cc0_stg1_0) $$ Hq; iintro Hq
  rw [wp_ret]; imodintro
  iapply HK
  isplitl [Hx Hq Hk Hv Ho]
  · isplitl [Hx]; · iexact Hx
    isplitl [Hq]; · iexact Hq
    isplitl [Hk]; · iexact Hk
    isplitl [Hv] <;> iassumption
  isplitl [HO]; · iexact HO
  isplitl [Hat]; · iexact Hat
  isplitl [HT] <;> iassumption

/-- The words of the mask. -/
theorem part2 {Q : (Σ' (_ : IVec S128x128 32) (_ : IVec S128x128 1) (_ : BitVec 32) (_ : IVec S128x128 32) (_ : IVec S128x128 1), IVec S128x128 1) → sProp 𝕄} :
    iprop((emp)
        ∗ ((emp) -∗ Q ⟨w40, w66, w68, k0_pay8, k0_pay9, k0_pay10⟩))
      ⊢ wp frame (wpE (defs₀ (F := F)) 𝒱₀ c none) Set.univ (k0_part2 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 wI k0_pay2 k0_pay3 k0_pay4) Q := by
  simp only [k0_part2_eq_skeleton]; unfold k0_part2_skel
  simp only [semSignalWord, semWaitWord, Prog.lift, Prog.bind_op, Prog.bind_ret, Prog.pure_eq_ret, wp_deviceId]
  unfold w40 w66 w68
  iintro ⟨-, HK⟩
  rw [wp_ret]; imodintro
  iapply HK
  iempintro

/-- The mask, the first head's weights and its values. -/
theorem part3 {Q : (Σ' (_ : IVec S128x128 1) (_ : FVec F S128x512 .f32) (_ : FVec F S128x128 .bf16), Vec F S1x128x64 .bf16) → sProp 𝕄} :
    iprop((ins c J)
        ∗ ((ins c J) -∗ Q ⟨msk, k0_pay12 (F := F), J.a0, J.ldV 0 inb_S8x128x64_S1x128x64_0_0_0⟩))
      ⊢ wp frame (wpE (defs₀ (F := F)) 𝒱₀ c none) Set.univ (k0_part3 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 J.qv w40 w66 w68 k0_pay8 k0_pay9 k0_pay10) Q := by
  simp only [k0_part3_eq_skeleton]; unfold k0_part3_skel
  simp only [semSignalWord, semWaitWord, Prog.lift, Prog.bind_op, Prog.bind_ret, Prog.pure_eq_ret, wp_deviceId]
  unfold ins msk Ins.a0 Ins.ldK Ins.ldV
  iintro ⟨⟨Hx, Hq, Hk, Hv, Ho⟩, HK⟩
  iapply (load_whole c cc0_stg2_0) $$ Hk; iintro Hk
  iapply (load_whole c cc0_stg3_0) $$ Hv; iintro Hv
  rw [wp_ret]; imodintro
  iapply HK
  isplitl [Hx]; · iexact Hx
  isplitl [Hq]; · iexact Hq
  isplitl [Hk]; · iexact Hk
  isplitl [Hv]; · iexact Hv
  iexact Ho

/-- Heads 0 and 1 of the first batch, and head 2's scores. -/
theorem part4 {Q : (Σ' (_ : FVec F S128x512 .f32), FVec F S128x128 .f32) → sProp 𝕄} :
    iprop((ins c J)
        ∗ ((ins c J) -∗ Q ⟨J.s1, J.l2⟩))
      ⊢ wp frame (wpE (defs₀ (F := F)) 𝒱₀ c none) Set.univ (k0_part4 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 J.qv msk (k0_pay12 (F := F)) J.a0 (J.ldV 0 inb_S8x128x64_S1x128x64_0_0_0)) Q := by
  simp only [k0_part4_eq_skeleton]; unfold k0_part4_skel
  simp only [semSignalWord, semWaitWord, Prog.lift, Prog.bind_op, Prog.bind_ret, Prog.pure_eq_ret, wp_deviceId]
  unfold ins Ins.s1 Ins.l2 Ins.ldK Ins.ldV Ins.ldO
  iintro ⟨⟨Hx, Hq, Hk, Hv, Ho⟩, HK⟩
  iapply (load_whole c cc0_stg4_0) $$ Ho; iintro Ho
  iapply (load_whole c cc0_stg2_0) $$ Hk; iintro Hk
  iapply (load_whole c cc0_stg3_0) $$ Hv; iintro Hv
  iapply (load_whole c cc0_stg4_0) $$ Ho; iintro Ho
  iapply (load_whole c cc0_stg2_0) $$ Hk; iintro Hk
  rw [wp_ret]; imodintro
  iapply HK
  isplitl [Hx]; · iexact Hx
  isplitl [Hq]; · iexact Hq
  isplitl [Hk]; · iexact Hk
  isplitl [Hv]; · iexact Hv
  iexact Ho

/-- Head 2 of the first batch, and head 3's weights. -/
theorem part5 {Q : (Σ' (_ : FVec F S128x512 .f32), FVec F S128x128 .bf16) → sProp 𝕄} :
    iprop((ins c J)
        ∗ ((ins c J) -∗ Q ⟨J.s2, J.a3⟩))
      ⊢ wp frame (wpE (defs₀ (F := F)) 𝒱₀ c none) Set.univ (k0_part5 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 J.qv msk J.s1 J.l2) Q := by
  simp only [k0_part5_eq_skeleton]; unfold k0_part5_skel
  simp only [semSignalWord, semWaitWord, Prog.lift, Prog.bind_op, Prog.bind_ret, Prog.pure_eq_ret, wp_deviceId]
  unfold ins Ins.s2 Ins.a3 Ins.ldK Ins.ldV Ins.ldO
  iintro ⟨⟨Hx, Hq, Hk, Hv, Ho⟩, HK⟩
  iapply (load_whole c cc0_stg3_0) $$ Hv; iintro Hv
  iapply (load_whole c cc0_stg4_0) $$ Ho; iintro Ho
  iapply (load_whole c cc0_stg2_0) $$ Hk; iintro Hk
  rw [wp_ret]; imodintro
  iapply HK
  isplitl [Hx]; · iexact Hx
  isplitl [Hq]; · iexact Hq
  isplitl [Hk]; · iexact Hk
  isplitl [Hv]; · iexact Hv
  iexact Ho

/-- Head 3 of the first batch; the batch's partial result starts its exchange with the first partner; head 4's scores. -/
theorem part6 {Q : (Σ' (_ : FVec F S128x512 .f32), FVec F S128x128 .f32) → sProp 𝕄} (hB : B 0 c = J.blk0) :
    iprop((recs B κ ∗ ins c J ∗ slotSome c 0 ∗ (∃ W, owes (c : Thread nD τ) (O2 c) W) ∗ gear 0 c)
        ∗ ((ins c J ∗ slotAt c 0 fullShare.right J.blk0 ∗ cred (tallyAt (sendCell c 0) () N) ∗ ∃ W, owes (c : Thread nD τ) (O3 c) W) -∗ Q ⟨k0_pay19 (F := F), J.a4⟩))
      ⊢ wp frame (wpE (defs₀ (F := F)) 𝒱₀ c none) Set.univ (k0_part6 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 c (w3 c) J.qv msk J.s2 J.a3) Q := by
  simp only [k0_part6_eq_skeleton]; unfold k0_part6_skel
  simp only [semSignalWord, semWaitWord, Prog.lift, Prog.bind_op, Prog.bind_ret, Prog.pure_eq_ret, wp_deviceId]
  unfold ins Ins.a4 Ins.ldK Ins.blk0 Ins.ldV Ins.ldO
  unfold Ins.blk0 Ins.ldV Ins.ldO at hB
  iintro ⟨⟨#HR, ⟨Hx, Hq, Hk, Hv, Ho⟩, Hs, ⟨%W, HO⟩, Hg⟩, HK⟩
  iapply (load_whole c cc0_stg3_0) $$ Hv; iintro Hv
  iapply (load_whole c cc0_stg4_0) $$ Ho; iintro Ho
  iapply (load_some c) $$ Hs; iintro %w Hs
  iapply (store_slot c) $$ Hs; iintro Hs
  ihave Hs := (slot_halves c _).1 $$ Hs
  icases Hs with ⟨Hl, Hr⟩
  iapply (send B c κ 0 rfl rfl (dev3_eq c) rfl rfl (O3 c) (W := W)) $$ [Hl HO Hg]
  · isplitr; · iexact HR
    rw [hB]
    isplitl [Hl]; · iexact Hl
    isplitl [HO]; · iexact HO
    iexact Hg
  iintro ⟨Hc, HO⟩
  iapply (load_whole c cc0_stg2_0) $$ Hk; iintro Hk
  rw [wp_ret]; imodintro
  iapply HK
  isplitl [Hx Hq Hk Hv Ho]
  · isplitl [Hx]; · iexact Hx
    isplitl [Hq]; · iexact Hq
    isplitl [Hk]; · iexact Hk
    isplitl [Hv] <;> iassumption
  isplitl [Hr]; · iexact Hr
  isplitl [Hc]; · iexact Hc
  iexists W; iexact HO

/-- Head 4 and most of head 5 of the second batch. -/
theorem part7 {Q : (Σ' (_ : FVec F S128x512 .f32), FVec F S128x64 .bf16) → sProp 𝕄} :
    iprop((ins c J)
        ∗ ((ins c J) -∗ Q ⟨J.s4, J.o5⟩))
      ⊢ wp frame (wpE (defs₀ (F := F)) 𝒱₀ c none) Set.univ (k0_part7 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 J.qv msk (k0_pay19 (F := F)) J.a4) Q := by
  simp only [k0_part7_eq_skeleton]; unfold k0_part7_skel
  simp only [semSignalWord, semWaitWord, Prog.lift, Prog.bind_op, Prog.bind_ret, Prog.pure_eq_ret, wp_deviceId]
  unfold ins Ins.s4 Ins.o5 Ins.ldK Ins.ldV Ins.ldO
  iintro ⟨⟨Hx, Hq, Hk, Hv, Ho⟩, HK⟩
  iapply (load_whole c cc0_stg3_0) $$ Hv; iintro Hv
  iapply (load_whole c cc0_stg4_0) $$ Ho; iintro Ho
  iapply (load_whole c cc0_stg2_0) $$ Hk; iintro Hk
  iapply (load_whole c cc0_stg3_0) $$ Hv; iintro Hv
  rw [wp_ret]; imodintro
  iapply HK
  isplitl [Hx]; · iexact Hx
  isplitl [Hq]; · iexact Hq
  isplitl [Hk]; · iexact Hk
  isplitl [Hv]; · iexact Hv
  iexact Ho

/-- Heads 5 and 6 of the second batch, and head 7's scores. -/
theorem part8 {Q : (Σ' (_ : FVec F S128x512 .f32) (_ : FVec F S128x128 .f32), F .f32) → sProp 𝕄} :
    iprop((ins c J)
        ∗ ((ins c J) -∗ Q ⟨J.s6, J.l7, Scalar.ofBits .f32 0xCE6E6B28#32⟩))
      ⊢ wp frame (wpE (defs₀ (F := F)) 𝒱₀ c none) Set.univ (k0_part8 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 J.qv msk J.s4 J.o5) Q := by
  simp only [k0_part8_eq_skeleton]; unfold k0_part8_skel
  simp only [semSignalWord, semWaitWord, Prog.lift, Prog.bind_op, Prog.bind_ret, Prog.pure_eq_ret, wp_deviceId]
  unfold ins Ins.s6 Ins.l7 Ins.ldK Ins.ldV Ins.ldO
  iintro ⟨⟨Hx, Hq, Hk, Hv, Ho⟩, HK⟩
  iapply (load_whole c cc0_stg4_0) $$ Ho; iintro Ho
  iapply (load_whole c cc0_stg2_0) $$ Hk; iintro Hk
  iapply (load_whole c cc0_stg3_0) $$ Hv; iintro Hv
  iapply (load_whole c cc0_stg4_0) $$ Ho; iintro Ho
  iapply (load_whole c cc0_stg2_0) $$ Hk; iintro Hk
  rw [wp_ret]; imodintro
  iapply HK
  isplitl [Hx]; · iexact Hx
  isplitl [Hq]; · iexact Hq
  isplitl [Hk]; · iexact Hk
  isplitl [Hv]; · iexact Hv
  iexact Ho

/-- Head 7 of the second batch; the batch's partial result starts its exchange with the second partner. -/
theorem part9 {Q : PUnit → sProp 𝕄} (hB : B 1 c = J.blk1) :
    iprop((recs B κ ∗ ins c J ∗ slotSome c 1 ∗ (∃ W, owes (c : Thread nD τ) (O3 c) W) ∗ gear 1 c)
        ∗ ((ins c J ∗ slotAt c 1 fullShare.right J.blk1 ∗ cred (tallyAt (sendCell c 1) () N) ∗ ∃ W, owes (c : Thread nD τ) (O4 c) W) -∗ Q ⟨⟩))
      ⊢ wp frame (wpE (defs₀ (F := F)) 𝒱₀ c none) Set.univ (k0_part9 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 c (w4 c) msk J.s6 J.l7 (Scalar.ofBits .f32 0xCE6E6B28#32)) Q := by
  simp only [k0_part9_eq_skeleton]; unfold k0_part9_skel
  simp only [semSignalWord, semWaitWord, Prog.lift, Prog.bind_op, Prog.bind_ret, Prog.pure_eq_ret, wp_deviceId]
  unfold ins Ins.blk1 Ins.ldV Ins.ldO
  unfold Ins.blk1 Ins.ldV Ins.ldO at hB
  iintro ⟨⟨#HR, ⟨Hx, Hq, Hk, Hv, Ho⟩, Hs, ⟨%W, HO⟩, Hg⟩, HK⟩
  iapply (load_whole c cc0_stg3_0) $$ Hv; iintro Hv
  iapply (load_whole c cc0_stg4_0) $$ Ho; iintro Ho
  iapply (load_some c) $$ Hs; iintro %w Hs
  iapply (store_slot c) $$ Hs; iintro Hs
  ihave Hs := (slot_halves c _).1 $$ Hs
  icases Hs with ⟨Hl, Hr⟩
  iapply (send B c κ 1 rfl rfl (dev4_eq c) rfl rfl (O4 c) (W := W)) $$ [Hl HO Hg]
  · isplitr; · iexact HR
    rw [hB]
    isplitl [Hl]; · iexact Hl
    isplitl [HO]; · iexact HO
    iexact Hg
  iintro ⟨Hc, HO⟩
  rw [wp_ret]; imodintro
  iapply HK
  isplitl [Hx Hq Hk Hv Ho]
  · isplitl [Hx]; · iexact Hx
    isplitl [Hq]; · iexact Hq
    isplitl [Hk]; · iexact Hk
    isplitl [Hv] <;> iassumption
  isplitl [Hr]; · iexact Hr
  isplitl [Hc]; · iexact Hc
  iexists W; iexact HO

/-- The first batch: the first partner's partial result has landed; the sum of both goes to the second partner. -/
theorem part10 {Q : PUnit → sProp 𝕄} (hB : B 2 c = k0_pay26 (B 0 c) (B 0 (rp 0 c))) :
    iprop((recs B κ ∗ levAts L lv ∗ slotAt c 0 fullShare.right (B 0 c) ∗ cred (tallyAt (recvCell c 0) () N) ∗ atPos ER (recvCell c 0) 0 ∅ 0
        ∗ (∃ W, owes (c : Thread nD τ) (O4 c) W) ∗ gear 2 c)
        ∗ ((slotAt c 0 fullShare.right (B 0 c) ∗ atPos ER (recvCell c 0) (0 + 1) ∅ 0 ∗ slotAt c 2 fullShare.right (B 2 c)
        ∗ cred (tallyAt (sendCell c 2) () N) ∗ ∃ W, owes (c : Thread nD τ) (O5 c) W) -∗ Q ⟨⟩))
      ⊢ wp frame (wpE (defs₀ (F := F)) 𝒱₀ c none) Set.univ (k0_part10 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 c (w3 c) (w4 c)) Q := by
  simp only [k0_part10_eq_skeleton]; unfold k0_part10_skel
  simp only [semSignalWord, semWaitWord, Prog.lift, Prog.bind_op, Prog.bind_ret, Prog.pure_eq_ret, wp_deviceId]
  iintro ⟨⟨#HR, #Hlev, Hs, Hc, Hat, ⟨%W, HO⟩, Hg⟩, HK⟩
  iapply (wait_own B c κ ⟨4 + 0, by decide⟩ (above_O4 c) (le_of_eq (lv_recv c 0 ())) (rest_recv B c 0) rfl (W := W)) $$ [HO Hc Hat]
  · isplitr; · iexact HR
    isplitr; · iexact Hlev
    isplitl [Hc]; · iexact Hc
    isplitl [HO] <;> iassumption
  unfold recvPay
  iintro ⟨⟨%W', HO⟩, Hat, Hd⟩
  iapply (load_slot c) $$ Hs; iintro Hs
  iapply (load_slot c) $$ Hd; iintro Hd
  iapply (load_slot c) $$ Hd; iintro Hd
  ihave Hd := (slotAt_some c _) $$ Hd
  iapply (store_slot c) $$ Hd; iintro Hd
  ihave Hd := (slot_halves c _).1 $$ Hd
  icases Hd with ⟨Hl, Hr⟩
  iapply (send B c κ 2 rfl rfl (dev5_eq c) rfl rfl (O5 c) (W := W')) $$ [Hl HO Hg]
  · isplitr; · iexact HR
    rw [hB]
    isplitl [Hl]; · iexact Hl
    isplitl [HO]; · iexact HO
    iexact Hg
  iintro ⟨Hc, HO⟩
  rw [wp_ret]; imodintro
  iapply HK
  isplitl [Hs]; · iexact Hs
  isplitl [Hat]; · iexact Hat
  isplitl [Hr]; · rw [hB]; iexact Hr
  isplitl [Hc]; · iexact Hc
  iexists W'; iexact HO

/-- The second batch: the second partner's partial result has landed; the sum of both goes to the first partner. -/
theorem part11 {Q : BitVec 32 → sProp 𝕄} (hB : B 3 c = k0_pay27 (B 1 c) (B 1 (rp 1 c))) :
    iprop((recs B κ ∗ levAts L lv ∗ slotAt c 1 fullShare.right (B 1 c) ∗ cred (tallyAt (recvCell c 1) () N) ∗ atPos ER (recvCell c 1) 0 ∅ 0
        ∗ (∃ W, owes (c : Thread nD τ) (O5 c) W) ∗ gear 3 c)
        ∗ ((slotAt c 1 fullShare.right (B 1 c) ∗ atPos ER (recvCell c 1) (0 + 1) ∅ 0 ∗ slotAt c 3 fullShare.right (B 3 c)
        ∗ cred (tallyAt (sendCell c 3) () N) ∗ ∃ W, owes (c : Thread nD τ) (0) W) -∗ Q (Scalar.muli (w4 c) 1#32)))
      ⊢ wp frame (wpE (defs₀ (F := F)) 𝒱₀ c none) Set.univ (k0_part11 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 c (w3 c) (w4 c)) Q := by
  simp only [k0_part11_eq_skeleton]; unfold k0_part11_skel
  simp only [semSignalWord, semWaitWord, Prog.lift, Prog.bind_op, Prog.bind_ret, Prog.pure_eq_ret, wp_deviceId]
  iintro ⟨⟨#HR, #Hlev, Hs, Hc, Hat, ⟨%W, HO⟩, Hg⟩, HK⟩
  iapply (wait_own B c κ ⟨4 + 1, by decide⟩ (above_O5 c) (le_of_eq (lv_recv c 1 ())) (rest_recv B c 1) rfl (W := W)) $$ [HO Hc Hat]
  · isplitr; · iexact HR
    isplitr; · iexact Hlev
    isplitl [Hc]; · iexact Hc
    isplitl [HO] <;> iassumption
  unfold recvPay
  iintro ⟨⟨%W', HO⟩, Hat, Hd⟩
  iapply (load_slot c) $$ Hs; iintro Hs
  iapply (load_slot c) $$ Hd; iintro Hd
  iapply (load_slot c) $$ Hd; iintro Hd
  ihave Hd := (slotAt_some c _) $$ Hd
  iapply (store_slot c) $$ Hd; iintro Hd
  ihave Hd := (slot_halves c _).1 $$ Hd
  icases Hd with ⟨Hl, Hr⟩
  iapply (send B c κ 3 rfl rfl (dev6_eq c) rfl rfl (0) (W := W')) $$ [Hl HO Hg]
  · isplitr; · iexact HR
    rw [hB]
    isplitl [Hl]; · iexact Hl
    isplitl [HO]; · rw [zero_add]; iexact HO
    iexact Hg
  iintro ⟨Hc, HO⟩
  rw [wp_ret]; imodintro
  iapply HK
  isplitl [Hs]; · iexact Hs
  isplitl [Hat]; · iexact Hat
  isplitl [Hr]; · rw [hB]; iexact Hr
  isplitl [Hc]; · iexact Hc
  iexists W'; iexact HO

/-- The first batch's result is stored; the second batch's landing is waited for. -/
theorem part12 {Q : FVec F S128x512 .f32 → sProp 𝕄} {f : S2x128x512.Idx → Elt F .f32} :
    iprop((recs B κ ∗ levAts L lv ∗ slotAt c 2 fullShare.right (B 2 c) ∗ cred (tallyAt (recvCell c 2) () N) ∗ atPos ER (recvCell c 2) 0 ∅ 0 ∗ pw c cc0_stg5_0 f
        ∗ slotAt c 3 fullShare.right (B 3 c) ∗ cred (tallyAt (recvCell c 3) () N) ∗ atPos ER (recvCell c 3) 0 ∅ 0
        ∗ ∃ W, owes (c : Thread nD τ) (0 : CellTallies nD τ sig Unit) W)
        ∗ ((slotAt c 2 fullShare.right (B 2 c) ∗ atPos ER (recvCell c 2) (0 + 1) ∅ 0 ∗ slotAt c 4 fullShare (B 2 (p2 c))
        ∗ pw c cc0_stg5_0 (out0 (k0_pay28 (B 2 c) (B 2 (p2 c))) f)
        ∗ slotAt c 3 fullShare.right (B 3 c) ∗ atPos ER (recvCell c 3) (0 + 1) ∅ 0 ∗ slotAt c 5 fullShare (B 3 (p1 c))
        ∗ ∃ W, owes (c : Thread nD τ) (0 : CellTallies nD τ sig Unit) W) -∗ Q (k0_pay29 (B 3 c))))
      ⊢ wp frame (wpE (defs₀ (F := F)) 𝒱₀ c none) Set.univ (k0_part12 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 (w3 c) (Scalar.muli (w4 c) 1#32)) Q := by
  simp only [k0_part12_eq_skeleton]; unfold k0_part12_skel
  simp only [semSignalWord, semWaitWord, Prog.lift, Prog.bind_op, Prog.bind_ret, Prog.pure_eq_ret, wp_deviceId]
  iintro ⟨⟨#HR, #Hlev, Hs2, Hc2, Hat2, Hout, Hs3, Hc3, Hat3, ⟨%W, HO⟩⟩, HK⟩
  iapply (wait_own B c κ ⟨4 + 2, by decide⟩ (above_zero 3) (le_of_eq (lv_recv c 2 ())) (rest_recv B c 2) rfl (W := W)) $$ [HO Hc2 Hat2]
  · isplitr; · iexact HR
    isplitr; · iexact Hlev
    isplitl [Hc2]; · iexact Hc2
    isplitl [HO] <;> iassumption
  unfold recvPay
  iintro ⟨⟨%W', HO⟩, Hat2, Hs4⟩
  iapply (load_slot c) $$ Hs2; iintro Hs2
  iapply (load_slot c) $$ Hs4; iintro Hs4
  iapply (load_whole c cc0_stg5_0) $$ Hout; iintro Hout
  iapply (wp_store 𝒱₀ (c : Thread nD τ) none Set.univ (m := outM) (r := Rect.unit (s := S2x128x512) ![0, 0, 0] S1x128x512.size inb_S2x128x512_S1x128x512_0_0_0) (Mk := Finset.univ) (S := Finset.univ) (Finset.subset_univ _)) $$ Hout; iintro Hout
  iapply (wait_own B c κ ⟨4 + 3, by decide⟩ (above_zero 3) (le_of_eq (lv_recv c 3 ())) (rest_recv B c 3) rfl (W := W')) $$ [HO Hc3 Hat3]
  · isplitr; · iexact HR
    isplitr; · iexact Hlev
    isplitl [Hc3]; · iexact Hc3
    isplitl [HO] <;> iassumption
  unfold recvPay
  iintro ⟨HO, Hat3, Hs5⟩
  iapply (load_slot c) $$ Hs3; iintro Hs3
  rw [wp_ret]; imodintro
  iapply HK
  isplitl [Hs2]; · iexact Hs2
  isplitl [Hat2]; · iexact Hat2
  isplitl [Hs4]; · iexact Hs4
  isplitl [Hout]; · iexact Hout
  isplitl [Hs3]; · iexact Hs3
  isplitl [Hat3]; · iexact Hat3
  isplitl [Hs5]; · iexact Hs5
  iexact HO

/-- The second batch's result is stored; three of the own transfers are waited for. -/
theorem part13 {Q : PUnit → sProp 𝕄} {f : S2x128x512.Idx → Elt F .f32} :
    iprop((recs B κ ∗ levAts L lv ∗ slotAt c 5 fullShare (B 3 (p1 c)) ∗ pw c cc0_stg5_0 f
        ∗ cred (tallyAt (sendCell c 0) () N) ∗ atPos ER (sendCell c 0) 0 ∅ 0
        ∗ cred (tallyAt (sendCell c 1) () N) ∗ atPos ER (sendCell c 1) 0 ∅ 0
        ∗ cred (tallyAt (sendCell c 2) () N) ∗ atPos ER (sendCell c 2) 0 ∅ 0
        ∗ ∃ W, owes (c : Thread nD τ) (0 : CellTallies nD τ sig Unit) W)
        ∗ ((slotAt c 5 fullShare (B 3 (p1 c)) ∗ pw c cc0_stg5_0 (out1 (k0_pay30 (k0_pay29 (B 3 c)) (B 3 (p1 c))) f)
        ∗ slotAt c 0 fullShare.left (B 0 c) ∗ atPos ER (sendCell c 0) (0 + 1) ∅ 0
        ∗ slotAt c 1 fullShare.left (B 1 c) ∗ atPos ER (sendCell c 1) (0 + 1) ∅ 0
        ∗ slotAt c 2 fullShare.left (B 2 c) ∗ atPos ER (sendCell c 2) (0 + 1) ∅ 0
        ∗ ∃ W, owes (c : Thread nD τ) (0 : CellTallies nD τ sig Unit) W) -∗ Q ⟨⟩))
      ⊢ wp frame (wpE (defs₀ (F := F)) 𝒱₀ c none) Set.univ (k0_part13 (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 (k0_pay29 (B 3 c))) Q := by
  simp only [k0_part13_eq_skeleton]; unfold k0_part13_skel
  simp only [semSignalWord, semWaitWord, Prog.lift, Prog.bind_op, Prog.bind_ret, Prog.pure_eq_ret, wp_deviceId]
  iintro ⟨⟨#HR, #Hlev, Hs5, Hout, Hc0, Hat0, Hc1, Hat1, Hc2, Hat2, ⟨%W, HO⟩⟩, HK⟩
  iapply (load_slot c) $$ Hs5; iintro Hs5
  iapply (load_whole c cc0_stg5_0) $$ Hout; iintro Hout
  iapply (wp_store 𝒱₀ (c : Thread nD τ) none Set.univ (m := outM) (r := Rect.unit (s := S2x128x512) ![1, 0, 0] S1x128x512.size inb_S2x128x512_S1x128x512_1_0_0) (Mk := Finset.univ) (S := Finset.univ) (Finset.subset_univ _)) $$ Hout; iintro Hout
  iapply (wait_own B c κ ⟨0, by decide⟩ (above_zero 3) (lv_send_le c 0) (rest_send B c 0) rfl (W := W)) $$ [HO Hc0 Hat0]
  · isplitr; · iexact HR
    isplitr; · iexact Hlev
    isplitl [Hc0]; · iexact Hc0
    isplitl [HO] <;> iassumption
  unfold sendPay
  iintro ⟨⟨%W0, HO⟩, Hat0, Hs0⟩
  iapply (wait_own B c κ ⟨1, by decide⟩ (above_zero 3) (lv_send_le c 1) (rest_send B c 1) rfl (W := W0)) $$ [HO Hc1 Hat1]
  · isplitr; · iexact HR
    isplitr; · iexact Hlev
    isplitl [Hc1]; · iexact Hc1
    isplitl [HO] <;> iassumption
  unfold sendPay
  iintro ⟨⟨%W1, HO⟩, Hat1, Hs1⟩
  iapply (wait_own B c κ ⟨2, by decide⟩ (above_zero 3) (lv_send_le c 2) (rest_send B c 2) rfl (W := W1)) $$ [HO Hc2 Hat2]
  · isplitr; · iexact HR
    isplitr; · iexact Hlev
    isplitl [Hc2]; · iexact Hc2
    isplitl [HO] <;> iassumption
  unfold sendPay
  iintro ⟨⟨%W2, HO⟩, Hat2, Hs2⟩
  rw [wp_ret]; imodintro
  iapply HK
  isplitl [Hs5]; · iexact Hs5
  isplitl [Hout]; · iexact Hout
  isplitl [Hs0]; · iexact Hs0
  isplitl [Hat0]; · iexact Hat0
  isplitl [Hs1]; · iexact Hs1
  isplitl [Hat1]; · iexact Hat1
  isplitl [Hs2]; · iexact Hs2
  isplitl [Hat2]; · iexact Hat2
  iexists W2; iexact HO

end Cert.AttnProof

end
-- ==== Proof.Body.lean ====
/-
# The body, once, at any device

The scratch buffer is its six slots; from the opened cells, the credits, the operands and the result buffer the body
reaches its end with every counter at zero, the operands as they were and the result buffer written.
-/
module

public import proofs.«01_k».proof.Proof.Parts
public import Idealize.ShloMosaic.Lib.Pipeline.Launch

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scratch buffer by slots -/

/-- The first `k` slots' indices. -/
def upto (k : ℕ) : Finset S6x128x512.Idx := Finset.univ.filter fun i => (i 0).val < k

/-- There is nothing below slot 0. -/
theorem upto_zero : upto 0 = ∅ := by simp [upto]
/-- The six slots are the whole buffer. -/
theorem upto_six : upto 6 = Finset.univ := Finset.filter_true_of_mem fun i _ => (i 0).isLt
/-- One slot more: the slots below, and that one. -/
theorem upto_succ (k : ℕ) : upto (k + 1) = upto k ∪ slotSet k := by
  ext i; simp only [upto, slotSet, Finset.mem_union, Finset.mem_filter, Finset.mem_univ, true_and]; omega
/-- A slot is apart from those below it. -/
theorem upto_disjoint (k : ℕ) : Disjoint (upto k) (slotSet k) := by
  rw [Finset.disjoint_left]; intro i; simp only [upto, slotSet, Finset.mem_filter, Finset.mem_univ, true_and]; omega

/-- The first `k` slots of device `c`, at some contents. -/
def uptoSome (c : Dev nD) (k : ℕ) : sProp 𝕄 :=
  iprop(∃ f : Buf (Elt F) (cM.view.loc (c : Thread nD τ)), cM.view.loc (c : Thread nD τ) ↦[upto k]{fullShare} f)

/-- The slots below the next, with any contents, split into those below and the last. -/
theorem upto_split (c : Dev nD) (k : ℕ) : uptoSome (F := F) c (k + 1) ⊢ iprop(uptoSome c k ∗ slotSome c k) := by
  unfold uptoSome slotSome
  rw [upto_succ]
  iintro ⟨%f, H⟩
  ihave H := (pointsTo_union (upto_disjoint k)).1 $$ H
  icases H with ⟨H1, H2⟩
  isplitl [H1]
  · iexists f; iexact H1
  · iexists f; iexact H2

/-- And join again. -/
theorem upto_join (c : Dev nD) (k : ℕ) : iprop(uptoSome c k ∗ slotSome c k) ⊢ uptoSome (F := F) c (k + 1) := by
  unfold uptoSome slotSome
  rw [upto_succ]
  iintro ⟨⟨%f, H1⟩, ⟨%g, H2⟩⟩
  ihave H := (pointsTo_join (ℓ := cM.view.loc (c : Thread nD τ)) (I := upto k) (J := slotSet k) (q := fullShare) (f := f) (g := g) (upto_disjoint k)) $$ [H1 H2]
  · isplitl [H1] <;> iassumption
  iexists _; iexact H

/-- The scratch buffer at some contents. -/
def scr (c : Dev nD) : sProp 𝕄 := iprop(∃ f : Buf (Elt F) (cM.view.loc (c : Thread nD τ)), cM.view.loc (c : Thread nD τ) ↦{fullShare} f)

/-- The whole buffer, as its six slots. -/
theorem scr_upto (c : Dev nD) : scr (F := F) c = uptoSome c 6 := by unfold scr uptoSome; rw [upto_six]
/-- Nothing is needed to hold no slot. -/
theorem upto_nil (c : Dev nD) : (iprop(emp) : sProp 𝕄) ⊢ uptoSome (F := F) c 0 := by
  unfold uptoSome; rw [upto_zero]
  iintro H; iexists (fun _ => Scalar.ofBits .bf16 0#16); rw [pointsTo_empty]; iexact H

/-- The scratch buffer, as its six slots. -/
theorem scr_split (c : Dev nD) : scr (F := F) c
    ⊢ iprop(slotSome c 0 ∗ slotSome c 1 ∗ slotSome c 2 ∗ slotSome c 3 ∗ slotSome c 4 ∗ slotSome c 5) := by
  rw [scr_upto]
  iintro H
  ihave H := (upto_split c 5) $$ H; icases H with ⟨H, H5⟩
  ihave H := (upto_split c 4) $$ H; icases H with ⟨H, H4⟩
  ihave H := (upto_split c 3) $$ H; icases H with ⟨H, H3⟩
  ihave H := (upto_split c 2) $$ H; icases H with ⟨H, H2⟩
  ihave H := (upto_split c 1) $$ H; icases H with ⟨H, H1⟩
  ihave H := (upto_split c 0) $$ H; icases H with ⟨-, H0⟩
  isplitl [H0]; · iexact H0
  isplitl [H1]; · iexact H1
  isplitl [H2]; · iexact H2
  isplitl [H3]; · iexact H3
  isplitl [H4] <;> iassumption

/-- The six slots make up the buffer. -/
theorem scr_join (c : Dev nD) : iprop(slotSome c 0 ∗ slotSome c 1 ∗ slotSome c 2 ∗ slotSome c 3 ∗ slotSome c 4 ∗ slotSome c 5)
    ⊢ scr (F := F) c := by
  rw [scr_upto]
  iintro ⟨H0, H1, H2, H3, H4, H5⟩
  iapply (upto_join c 5); isplitr [H5]; swap; · iexact H5
  iapply (upto_join c 4); isplitr [H4]; swap; · iexact H4
  iapply (upto_join c 3); isplitr [H3]; swap; · iexact H3
  iapply (upto_join c 2); isplitr [H2]; swap; · iexact H2
  iapply (upto_join c 1); isplitr [H1]; swap; · iexact H1
  iapply (upto_join c 0); isplitr [H0]; swap; · iexact H0
  iapply (upto_nil c); iempintro

/-- A slot whose two halves hold the same block is a slot at some contents. -/
theorem halves_some (c : Dev nD) (k : ℕ) (v : Blk F) : iprop(slotAt c k fullShare.left v ∗ slotAt c k fullShare.right v) ⊢ slotSome c k :=
  (slot_halves c v).2.trans (slotAt_some c v)

/-! ## The body -/

/-- A separating product over four, written out. -/
theorem bigSep4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
/-- A separating product over eight, written out. -/
theorem bigSep8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

variable (I : Dev nD → Ins F) (κ : GSem nD τ sig → ℕ) (c : Dev nD)

/-- The duty tokens device `c` pays with: two barriers, its send cells, its partners' receive cells. -/
def toksOf : sProp 𝕄 :=
  iprop(dutyTok ER (barCell (p1 c)) 0 true ∗ dutyTok ER (barCell (p2 c)) 0 false
    ∗ (bigSep Finset.univ fun k : Fin 4 => dutyTok ER (sendCell c k) 0 false)
    ∗ bigSep Finset.univ fun k : Fin 4 => dutyTok ER (recvCell (rp k c) k) 0 false)

/-- The credits it waits with: two units of its barrier, a transfer's worth at each receive cell. -/
def creds : sProp 𝕄 :=
  iprop(cred (tallyAt (barCell c) () 2) ∗ bigSep Finset.univ fun k : Fin 4 => cred (tallyAt (recvCell c k) () N))

/-- Once the transfer cells are open: the records, the positions, the tokens. -/
def opened : sProp 𝕄 :=
  iprop(recs (sent I) κ ∗ atPos ER (barCell c) 0 ∅ 0
    ∗ (bigSep Finset.univ fun k : Fin 8 => iprop(atPos ER ((c : Thread nD τ), osem k) 0 ∅ 0 ∗ reached ER ((c : Thread nD τ), osem k) 0))
    ∗ toksOf c)

def bodyPre (f : S2x128x512.Idx → Elt F .f32) : sProp 𝕄 :=
  iprop(opened I κ c ∗ creds c ∗ levAts L lv ∗ scr c ∗ ins c (I c) ∗ pw c cc0_stg5_0 f ∗ ∃ W, owes (c : Thread nD τ) (O₀ c) W)

def bodyPost (f : S2x128x512.Idx → Elt F .f32) : sProp 𝕄 :=
  iprop(semVal (barCell c) 0 ∗ (bigSep Finset.univ fun k : Fin 8 => semVal ((c : Thread nD τ), osem k) 0) ∗ scr c ∗ ins c (I c)
    ∗ pw c cc0_stg5_0 (outv I c f) ∗ ∃ W, owes (c : Thread nD τ) (0 : CellTallies nD τ sig Unit) W)

set_option maxHeartbeats 1600000 in
set_option maxRecDepth 65536 in
/-- The body at any device, from its opened cells to its end. -/
theorem bodyRun (f : S2x128x512.Idx → Elt F .f32) {Q : PUnit → sProp 𝕄} :
    iprop(bodyPre I κ c f ∗ (bodyPost I c f -∗ Q ⟨⟩))
      ⊢ wp frame (wpE (defs₀ (F := F)) 𝒱₀ c none) Set.univ (cc0_body (F := F)
      (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2) Q := by
  simp only [cc0_body_eq_skeleton]; unfold cc0_body_skel
  simp only [Prog.lift, Prog.bind_op, Prog.bind_ret, Prog.pure_eq_ret]
  unfold bodyPre opened creds toksOf
  simp only [bigSep8, bigSep4]
  iintro ⟨⟨⟨#HR, HatB, ⟨⟨Ha0, #Hr0⟩, ⟨Ha1, #Hr1⟩, ⟨Ha2, #Hr2⟩, ⟨Ha3, #Hr3⟩, ⟨Ha4, #Hr4⟩, ⟨Ha5, #Hr5⟩, ⟨Ha6, #Hr6⟩, ⟨Ha7, #Hr7⟩⟩,
    HtB1, HtB2, ⟨Ht0, Ht1, Ht2, Ht3⟩, ⟨Hu0, Hu1, Hu2, Hu3⟩⟩, ⟨HcB, Hc4, Hc5, Hc6, Hc7⟩, #Hlev, Hscr, Hins, Hout, HO⟩, HK⟩
  ihave Hsl := (scr_split c) $$ Hscr
  icases Hsl with ⟨Hs0, Hs1, Hs2, Hs3, Hs4, Hs5⟩
  rw [wp_bind]; iapply (part1 (sent I) c κ (I c))
  isplitl [Hins HO HatB HcB HtB1 HtB2 Hs2 Hs3 Hs4 Hs5]
  · isplitr; · iexact HR
    isplitr; · iexact Hlev
    isplitl [Hins]; · iexact Hins
    isplitl [HO]; · iexact HO
    isplitl [HatB]; · iexact HatB
    isplitl [HcB]; · iexact HcB
    isplitl [HtB1]; · iexact HtB1
    isplitl [HtB2]; · iexact HtB2
    isplitl [Hs2]; · iexact Hs2
    isplitl [Hs3]; · iexact Hs3
    isplitl [Hs4]; · iexact Hs4
    isplitl [Hs5]; · iexact Hs5
    isplitr; · iexact Hr4
    isplitr; · iexact Hr5
    isplitr; · iexact Hr6
    iexact Hr7
  unfold barPayT barPayF
  iintro ⟨Hins, HO, HatB, ⟨Hs2, Hs5, #HR0, #HR3⟩, ⟨Hs3, Hs4, #HR1, #HR2⟩⟩
  rw [wp_bind]; iapply part2; isplitr; · iempintro
  iintro -
  rw [wp_bind]; iapply (part3 c (I c)); isplitl [Hins]; · iexact Hins
  iintro Hins
  rw [wp_bind]; iapply (part4 c (I c)); isplitl [Hins]; · iexact Hins
  iintro Hins
  rw [wp_bind]; iapply (part5 c (I c)); isplitl [Hins]; · iexact Hins
  iintro Hins
  rw [wp_bind]; iapply (part6 (sent I) c κ (I c) rfl)
  isplitl [Hins Hs0 HO Ht0 Hu0 Hs2]
  · isplitr; · iexact HR
    isplitl [Hins]; · iexact Hins
    isplitl [Hs0]; · iexact Hs0
    isplitl [HO]; · iexact HO
    · unfold gear
      isplitl [Ht0]; · iexact Ht0
      isplitr; · iexact Hr0
      isplitl [Hu0]; · iexact Hu0
      isplitr; · iexact HR0
      iexact Hs2
  iintro ⟨Hins, Hh0, Hd0, HO⟩
  rw [wp_bind]; iapply (part7 c (I c)); isplitl [Hins]; · iexact Hins
  iintro Hins
  rw [wp_bind]; iapply (part8 c (I c)); isplitl [Hins]; · iexact Hins
  iintro Hins
  rw [wp_bind]; iapply (part9 (sent I) c κ (I c) rfl)
  isplitl [Hins Hs1 HO Ht1 Hu1 Hs3]
  · isplitr; · iexact HR
    isplitl [Hins]; · iexact Hins
    isplitl [Hs1]; · iexact Hs1
    isplitl [HO]; · iexact HO
    · unfold gear
      isplitl [Ht1]; · iexact Ht1
      isplitr; · iexact Hr1
      isplitl [Hu1]; · iexact Hu1
      isplitr; · iexact HR1
      iexact Hs3
  iintro ⟨Hins, Hh1, Hd1, HO⟩
  rw [wp_bind]; iapply (part10 (sent I) c κ rfl)
  isplitl [Hh0 Hc4 Ha4 HO Ht2 Hu2 Hs4]
  · isplitr; · iexact HR
    isplitr; · iexact Hlev
    isplitl [Hh0]; · iexact Hh0
    isplitl [Hc4]; · iexact Hc4
    isplitl [Ha4]; · iexact Ha4
    isplitl [HO]; · iexact HO
    · unfold gear
      isplitl [Ht2]; · iexact Ht2
      isplitr; · iexact Hr2
      isplitl [Hu2]; · iexact Hu2
      isplitr; · iexact HR2
      iexact Hs4
  iintro ⟨Hh0, Ha4, Hh2, Hd2, HO⟩
  rw [wp_bind]; iapply (part11 (sent I) c κ rfl)
  isplitl [Hh1 Hc5 Ha5 HO Ht3 Hu3 Hs5]
  · isplitr; · iexact HR
    isplitr; · iexact Hlev
    isplitl [Hh1]; · iexact Hh1
    isplitl [Hc5]; · iexact Hc5
    isplitl [Ha5]; · iexact Ha5
    isplitl [HO]; · iexact HO
    · unfold gear
      isplitl [Ht3]; · iexact Ht3
      isplitr; · iexact Hr3
      isplitl [Hu3]; · iexact Hu3
      isplitr; · iexact HR3
      iexact Hs5
  iintro ⟨Hh1, Ha5, Hh3, Hd3, HO⟩
  rw [wp_bind]; iapply (part12 (sent I) c κ (f := f))
  isplitl [Hh2 Hc6 Ha6 Hout Hh3 Hc7 Ha7 HO]
  · isplitr; · iexact HR
    isplitr; · iexact Hlev
    isplitl [Hh2]; · iexact Hh2
    isplitl [Hc6]; · iexact Hc6
    isplitl [Ha6]; · iexact Ha6
    isplitl [Hout]; · iexact Hout
    isplitl [Hh3]; · iexact Hh3
    isplitl [Hc7]; · iexact Hc7
    isplitl [Ha7]; · iexact Ha7
    iexact HO
  iintro ⟨Hh2, Ha6, Hs4, Hout, Hh3, Ha7, Hs5, HO⟩
  rw [wp_bind]; iapply (part13 (sent I) c κ)
  isplitl [Hs5 Hout Hd0 Ha0 Hd1 Ha1 Hd2 Ha2 HO]
  · isplitr; · iexact HR
    isplitr; · iexact Hlev
    isplitl [Hs5]; · iexact Hs5
    isplitl [Hout]; · iexact Hout
    isplitl [Hd0]; · iexact Hd0
    isplitl [Ha0]; · iexact Ha0
    isplitl [Hd1]; · iexact Hd1
    isplitl [Ha1]; · iexact Ha1
    isplitl [Hd2]; · iexact Hd2
    isplitl [Ha2]; · iexact Ha2
    iexact HO
  iintro ⟨Hs5, Hout, Hl0, Ha0, Hl1, Ha1, Hl2, Ha2, ⟨%W, HO⟩⟩
  iapply (wait_own (sent I) c κ ⟨3, by decide⟩ (above_zero 3) (lv_send_le c 3) (rest_send (sent I) c 3) rfl (W := W)) $$ [HO Hd3 Ha3]
  · isplitr; · iexact HR
    isplitr; · iexact Hlev
    isplitl [Hd3]; · iexact Hd3
    isplitl [HO]; · iexact HO
    iexact Ha3
  unfold sendPay
  iintro ⟨HO, Ha3, Hl3⟩
  rw [wp_ret]
  imod (close (sent I) κ (barCell c) (bar_mem c)) $$ [HatB] with Hb
  · isplitr; · iexact HR
    iexact HatB
  imod (close (sent I) κ ((c : Thread nD τ), osem 0) (own_mem c 0)) $$ [Ha0] with Hv0
  · isplitr; · iexact HR
    iexact Ha0
  imod (close (sent I) κ ((c : Thread nD τ), osem 1) (own_mem c 1)) $$ [Ha1] with Hv1
  · isplitr; · iexact HR
    iexact Ha1
  imod (close (sent I) κ ((c : Thread nD τ), osem 2) (own_mem c 2)) $$ [Ha2] with Hv2
  · isplitr; · iexact HR
    iexact Ha2
  imod (close (sent I) κ ((c : Thread nD τ), osem 3) (own_mem c 3)) $$ [Ha3] with Hv3
  · isplitr; · iexact HR
    iexact Ha3
  imod (close (sent I) κ ((c : Thread nD τ), osem 4) (own_mem c 4)) $$ [Ha4] with Hv4
  · isplitr; · iexact HR
    iexact Ha4
  imod (close (sent I) κ ((c : Thread nD τ), osem 5) (own_mem c 5)) $$ [Ha5] with Hv5
  · isplitr; · iexact HR
    iexact Ha5
  imod (close (sent I) κ ((c : Thread nD τ), osem 6) (own_mem c 6)) $$ [Ha6] with Hv6
  · isplitr; · iexact HR
    iexact Ha6
  imod (close (sent I) κ ((c : Thread nD τ), osem 7) (own_mem c 7)) $$ [Ha7] with Hv7
  · isplitr; · iexact HR
    iexact Ha7
  imodintro
  iapply HK
  unfold bodyPost
  simp only [bigSep8]
  isplitl [Hb]; · iexact Hb
  isplitl [Hv0 Hv1 Hv2 Hv3 Hv4 Hv5 Hv6 Hv7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  isplitl [Hl0 Hh0 Hl1 Hh1 Hl2 Hh2 Hl3 Hh3 Hs4 Hs5]
  · iapply (scr_join c)
    isplitl [Hl0 Hh0]
    · iapply (halves_some c 0 (sent I 0 c)); isplitl [Hl0]; · iexact Hl0
      iexact Hh0
    isplitl [Hl1 Hh1]
    · iapply (halves_some c 1 (sent I 1 c)); isplitl [Hl1]; · iexact Hl1
      iexact Hh1
    isplitl [Hl2 Hh2]
    · iapply (halves_some c 2 (sent I 2 c)); isplitl [Hl2]; · iexact Hl2
      iexact Hh2
    isplitl [Hl3 Hh3]
    · iapply (halves_some c 3 (sent I 3 c)); isplitl [Hl3]; · iexact Hl3
      iexact Hh3
    isplitl [Hs4]; · iapply (slotAt_some c _); iexact Hs4
    iapply (slotAt_some c _); iexact Hs5
  isplitl [Hins]; · iexact Hins
  isplitl [Hout]; · iexact Hout
  iexact HO

end Cert.AttnProof

end
-- ==== Proof.Region.lean ====
module

public import proofs.«01_k».proof.Proof.Body
public import Idealize.ShloMosaic.Lib.Pipeline.Launch
public import Idealize.ShloMosaic.Lib.Pipeline.RegionTalk
public import proofs.«01_k».proof.Proof.Gen.KernelIdeal.Points
public import proofs.«01_k».proof.Proof.Gen.KernelIdeal.Regions

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-! ## The result does not depend on what its buffer held -/

/-- The two stores fill the result, so that what the buffer held before does not matter. -/
theorem outv_indep (I : Dev nD → Ins F) (c : Dev nD) (f f' : S2x128x512.Idx → Elt F .f32) : outv I c f = outv I c f' := by
  funext j
  unfold outv
  by_cases h1 : j ∈ (outM.access (Rect.unit (s := S2x128x512) ![1, 0, 0] S1x128x512.size inb_S2x128x512_S1x128x512_1_0_0)).set
  · obtain ⟨x, -, rfl⟩ := Finset.mem_map.mp h1
    rw [View.write_emb_of_mem _ _ (Finset.mem_univ _), View.write_emb_of_mem _ _ (Finset.mem_univ _)]
  · rw [View.write_of_not_mem _ _ _ h1, View.write_of_not_mem _ _ _ h1]
    by_cases h0 : j ∈ (outM.access (Rect.unit (s := S2x128x512) ![0, 0, 0] S1x128x512.size inb_S2x128x512_S1x128x512_0_0_0)).set
    · obtain ⟨x, -, rfl⟩ := Finset.mem_map.mp h0
      rw [View.write_emb_of_mem _ _ (Finset.mem_univ _), View.write_emb_of_mem _ _ (Finset.mem_univ _)]
    · exfalso
      rw [View.set_slice_whole, Rect.mem_set_unit] at h0 h1
      have b0 : (j 0).val < 2 := (j 0).isLt
      have b1 : (j 1).val < 128 := (j 1).isLt
      have b2 : (j 2).val < 512 := (j 2).isLt
      by_cases hj : (j 0).val = 0
      · exact h0 fun a => match a with
          | 0 => ⟨by show 0 ≤ _; omega, by show _ < 0 + 1; omega⟩
          | 1 => ⟨Nat.zero_le _, by show _ < 0 + 128; omega⟩
          | 2 => ⟨Nat.zero_le _, by show _ < 0 + 512; omega⟩
      · exact h1 fun a => match a with
          | 0 => ⟨by show 1 ≤ _; omega, by show _ < 1 + 1; omega⟩
          | 1 => ⟨Nat.zero_le _, by show _ < 0 + 128; omega⟩
          | 2 => ⟨Nat.zero_le _, by show _ < 0 + 512; omega⟩

/-- The result of device `c`. -/
def outR (I : Dev nD → Ins F) (c : Dev nD) : S2x128x512.Idx → Elt F .f32 := outv I c fun _ => Scalar.ofBits .f32 0#32

variable (m : (ℓ : Loc nD τ sig) → Buf (Elt F) ℓ) (ρ : Dev nD → PrngReg)

/-- What the launch finds staged: the arrays after the host operations. -/
def IV (c : Dev nD) : Ins F := ⟨V1 m c main_v5, V1 m c main_arg1, V1 m c main_v17, V1 m c main_v19, V1 m c main_arg4⟩

/-- The contents at the end: the result array at the computed contents, the rest as the host operations left it. -/
abbrev VE (c : Dev nD) : Valuation τ sig (Elt F) := Function.update (V1 m c) (Proc.devRef .tc main_v20) (outR (IV m) c)

/-! ## The launch's ghost state on one device -/

/-- What the launch makes for device `c`. -/
def Tk (c : Dev nD) : sProp 𝕄 :=
  iprop((∃ κ, recs (sent (IV m)) κ ∗ atPos ER (barCell c) 0 ∅ 0 ∗ (bigSep Finset.univ fun k : Fin 8 => openTok ER ((c : Thread nD τ), osem k)) ∗ toksOf c)
    ∗ creds c)
/-- What enters the kernel. -/
def Xk (c : Dev nD) : sProp 𝕄 := iprop((∃ κ, opened (IV m) κ c) ∗ creds c ∗ levAts L lv)
/-- What leaves it. -/
def Yk (c : Dev nD) : sProp 𝕄 := semVal (barCell c) 0

/-- Two families, as one family of pairs; and back. -/
theorem pairUp {ι M : Type} [Fintype ι] [URA M] {Φ Ψ : ι → sProp M} :
    iprop(bigSep Finset.univ Φ ∗ bigSep Finset.univ Ψ) ⊢ bigSep Finset.univ (fun c => iprop(Φ c ∗ Ψ c)) :=
  Entails.of_eq (bigSep_sep _ _ _).symm
/-- Two products over the same family are one of pairs. -/
theorem unpair {ι M : Type} [Fintype ι] [URA M] {Φ Ψ : ι → sProp M} :
    bigSep Finset.univ (fun c => iprop(Φ c ∗ Ψ c)) ⊢ iprop(bigSep Finset.univ Φ ∗ bigSep Finset.univ Ψ) :=
  Entails.of_eq (bigSep_sep _ _ _)

/-- A copy's cell is opened. -/
theorem opening (c : Dev nD) (κ : GSem nD τ sig → ℕ) (k : Fin 8) :
    iprop(recs (sent (IV m)) κ ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  iintro ⟨#HR, Ho, Hs⟩
  ihave HI := (recs_own (sent (IV m)) κ c k) $$ HR
  imod (Rounds.cell_open ER (talkRd (sent (IV m))) (g := ((c : Thread nD τ), osem k)) (Set.mem_univ (κ ((c : Thread nD τ), osem k)))) $$ [HI Ho Hs] with ⟨Hat, #Hr⟩
  · isplitl [HI]; · iexact HI
    isplitl [Ho] <;> iassumption
  imodintro
  isplitl [Hat]; · iexact Hat
  iexact Hr

/-- Entering the kernel opens its transfer cells. -/
theorem hopen (c : Dev nD) : iprop(Tk m c ∗ Pipeline.ownSems0 osem c ∗ levAts L lv) ⊢ (|={Set.univ}=> Xk m c : sProp 𝕄) := by
  unfold Tk Xk opened
  iintro ⟨⟨⟨%κ, #HR, HaB, Hop, Htk⟩, Hcr⟩, Hos, #Hlev⟩
  ihave Hos := (show Pipeline.ownSems0 osem c ⊢ (bigSep Finset.univ fun k : Fin 8 => semVal ((c : Thread nD τ), osem k) 0 : sProp 𝕄) from .rfl) $$ Hos
  ihave Hb := (pairUp (Φ := fun k : Fin 8 => (openTok ER ((c : Thread nD τ), osem k) : sProp 𝕄))
    (Ψ := fun k : Fin 8 => (semVal ((c : Thread nD τ), osem k) 0 : sProp 𝕄))) $$ [Hop Hos]
  · isplitl [Hop] <;> iassumption
  ihave Hb := (bigSep_with_persistent (S := Finset.univ) (R := recs (sent (IV m)) κ) (Φ := fun k : Fin 8 => iprop(openTok ER ((c : Thread nD τ), osem k) ∗ semVal ((c : Thread nD τ), osem k) 0))
    fun k _ => opening m c κ k) $$ [Hb]
  · isplitr; · iexact HR
    iexact Hb
  ihave Hb := (bigSep_fupd _ _) $$ Hb
  imod Hb with Hb
  imodintro
  isplitl [HaB Hb Htk]
  · iexists κ
    isplitr; · iexact HR
    isplitl [HaB]; · iexact HaB
    isplitl [Hb] <;> iassumption
  isplitl [Hcr]; · iexact Hcr
  iexact Hlev

/-! ## The region -/

/-- The region's data: the arrays it finds, what it leaves staged, its invariant at each end, what the core owes there. -/
def dat (c : Dev nD) : Pipeline.Dat τ (Elt F) Unit ℕ UU ℕ cfg0 c where
  A w := V1 m c (Proc.devRef .tc (Pipeline.arrRef spec0 w))
  after w _ := match w with
    | ⟨0, _⟩ => (IV m c).x
    | ⟨1, _⟩ => (IV m c).q
    | ⟨2, _⟩ => (IV m c).k
    | ⟨3, _⟩ => (IV m c).v
    | ⟨4, _⟩ => (IV m c).o
    | ⟨5, _⟩ => outR (IV m) c
  Φ t := if t.val = 0 then iprop(Xk m c ∗ scr c ∗ ∃ r, prngReg c r)
    else iprop(Yk c ∗ (bigSep Finset.univ fun k : Fin 8 => semVal ((c : Thread nD τ), osem k) 0) ∗ scr c ∗ ∃ r, prngReg c r)
  q _ := fullShare
  owed t := if t.val = 0 then O₀ c else 0

def pdats : (p : Fin 1) → (c : Dev nD) → Pipeline.Dat τ (Elt F) Unit ℕ UU ℕ (cfgs p) c := fun _ c => dat m c

/-- At the start the device owes all its signals and copies. -/
theorem owed_first (c : Dev nD) : (dat m c).owed 0 = O₀ c := by
  show (if ((0 : Fin (cfg0.N + 1)).val = 0) then O₀ c else 0) = O₀ c; exact if_pos rfl
/-- So it does at the one grid point. -/
theorem owed_point (c : Dev nD) : (dat m c).owed (t0_0 : Fin cfg0.N).castSucc = O₀ c := by
  show (if (((t0_0 : Fin cfg0.N).castSucc).val = 0) then O₀ c else 0) = O₀ c; exact if_pos rfl
/-- At the end it owes nothing. -/
theorem owed_last (c : Dev nD) : (dat m c).owed (Fin.last _) = 0 := by
  show (if ((Fin.last cfg0.N).val = 0) then O₀ c else 0) = 0
  rw [Fin.val_last, if_neg (by rw [show cfg0.N = 1 from N_0]; decide)]

/-- What the device owes, in the pipeline's form. -/
theorem owesAt_intro {c : Dev nD} (dat : Pipeline.Dat τ (Elt F) Unit ℕ UU ℕ cfg0 c) (t : Fin (cfg0.N + 1)) (O : CellTallies nD τ sig Unit)
    (h : dat.owed t = O) (hr : dat.recorded t = Set.univ) : iprop(∃ W, owes (c : Thread nD τ) O W) ⊢ dat.owesAt () t := by
  unfold Pipeline.Dat.owesAt Pipeline.owesWithin Pipeline.Dat.bound
  rw [h, hr]
  iintro ⟨%W, HO⟩; iexists W; isplitr; · ipureintro; exact fun _ _ => Or.inl trivial
  iexact HO
/-- And back. -/
theorem owesAt_elim {c : Dev nD} (dat : Pipeline.Dat τ (Elt F) Unit ℕ UU ℕ cfg0 c) (t : Fin (cfg0.N + 1)) (O : CellTallies nD τ sig Unit)
    (h : dat.owed t = O) : dat.owesAt () t ⊢ iprop(∃ W, owes (c : Thread nD τ) O W) := by
  unfold Pipeline.Dat.owesAt Pipeline.owesWithin
  rw [h]
  iintro ⟨%W, -, HO⟩; iexists W; iexact HO

/-! ### Windows that are their whole arrays -/

/-- Window 0 stages its array's contents. -/
theorem read_0 (t : Fin cfg0.N) (f : (main_v5 : Ref sig .tc).ty.Contents (Elt F)) : (win0_0.blk t).view.read (Elt F) f = f :=
  Memref.readAt_unit_zero (Elt F) main_v5 (funext fun a => Nat.zero_mul _) _ f
/-- The first window's buffer holds the rows. -/
theorem before_0 (c : Dev nD) (t : Fin cfg0.N) (d) : (dat m c).before 0 t d = (IV m c).x := by
  unfold Pipeline.Dat.before; rw [if_pos (fetch0_0 t)]
  show win0_0.fill _ d ((win0_0.blk t).view.read (Elt F) (V1 m c main_v5)) = V1 m c main_v5
  rw [read_0]; rfl
/-- Window 1 stages its array's contents. -/
theorem read_1 (t : Fin cfg0.N) (f : (main_arg1 : Ref sig .tc).ty.Contents (Elt F)) : (win0_1.blk t).view.read (Elt F) f = f :=
  Memref.readAt_unit_zero (Elt F) main_arg1 (funext fun a => Nat.zero_mul _) _ f
/-- The second's the query weights. -/
theorem before_1 (c : Dev nD) (t : Fin cfg0.N) (d) : (dat m c).before 1 t d = (IV m c).q := by
  unfold Pipeline.Dat.before; rw [if_pos (fetch0_1 t)]
  show win0_1.fill _ d ((win0_1.blk t).view.read (Elt F) (V1 m c main_arg1)) = V1 m c main_arg1
  rw [read_1]; rfl
/-- Window 2 stages its array's contents. -/
theorem read_2 (t : Fin cfg0.N) (f : (main_v17 : Ref sig .tc).ty.Contents (Elt F)) : (win0_2.blk t).view.read (Elt F) f = f :=
  Memref.readAt_unit_zero (Elt F) main_v17 (funext fun a => Nat.zero_mul _) _ f
/-- The third's the keys. -/
theorem before_2 (c : Dev nD) (t : Fin cfg0.N) (d) : (dat m c).before 2 t d = (IV m c).k := by
  unfold Pipeline.Dat.before; rw [if_pos (fetch0_2 t)]
  show win0_2.fill _ d ((win0_2.blk t).view.read (Elt F) (V1 m c main_v17)) = V1 m c main_v17
  rw [read_2]; rfl
/-- Window 3 stages its array's contents. -/
theorem read_3 (t : Fin cfg0.N) (f : (main_v19 : Ref sig .tc).ty.Contents (Elt F)) : (win0_3.blk t).view.read (Elt F) f = f :=
  Memref.readAt_unit_zero (Elt F) main_v19 (funext fun a => Nat.zero_mul _) _ f
/-- The fourth's the values. -/
theorem before_3 (c : Dev nD) (t : Fin cfg0.N) (d) : (dat m c).before 3 t d = (IV m c).v := by
  unfold Pipeline.Dat.before; rw [if_pos (fetch0_3 t)]
  show win0_3.fill _ d ((win0_3.blk t).view.read (Elt F) (V1 m c main_v19)) = V1 m c main_v19
  rw [read_3]; rfl
/-- Window 4 stages its array's contents. -/
theorem read_4 (t : Fin cfg0.N) (f : (main_arg4 : Ref sig .tc).ty.Contents (Elt F)) : (win0_4.blk t).view.read (Elt F) f = f :=
  Memref.readAt_unit_zero (Elt F) main_arg4 (funext fun a => Nat.zero_mul _) _ f
/-- The fifth's the output weights. -/
theorem before_4 (c : Dev nD) (t : Fin cfg0.N) (d) : (dat m c).before 4 t d = (IV m c).o := by
  unfold Pipeline.Dat.before; rw [if_pos (fetch0_4 t)]
  show win0_4.fill _ d ((win0_4.blk t).view.read (Elt F) (V1 m c main_arg4)) = V1 m c main_arg4
  rw [read_4]; rfl
/-- The result window writes its whole array. -/
theorem write_5 (t : Fin cfg0.N) (f g : (main_v20 : Ref sig .tc).ty.Contents (Elt F)) : (win0_5.blk t).view.write (Elt F) f g Finset.univ = g :=
  Memref.write_access_unit_zero_univ (Elt F) main_v20 (funext fun a => Nat.zero_mul _) _ f g

/-- The result array ends with the result. -/
theorem arrAt_out (c : Dev nD) : (dat m c).arrAt 5 cfg0.N = outR (IV m) c := by
  rw [show cfg0.N = (t0_0 : Fin cfg0.N).val + 1 from N_0, Pipeline.Dat.arrAt_succ, if_pos (flush0_5 _)]
  exact write_5 _ _ _

/-- At the start the windows' arrays hold what the host left. -/
theorem hW (c : Dev nD) (w : Fin cfg0.W) : (dat m c).arrAt w 0 = V1 m c (Proc.devRef .tc (Pipeline.arrRef spec0 w)) := rfl
/-- At the end the result array holds the result and the others what they held. -/
theorem hW' (c : Dev nD) (w : Fin cfg0.W) : (dat m c).arrAt w cfg0.N = VE m c (Proc.devRef .tc (Pipeline.arrRef spec0 w)) := by
  have hin (w : Fin cfg0.W) (hw : (cfg0.win w).isOut = false) (hne : (Proc.devRef .tc (Pipeline.arrRef spec0 w) : DevRef τ sig) ≠ Proc.devRef .tc main_v20) :
      (dat m c).arrAt w cfg0.N = VE m c (Proc.devRef .tc (Pipeline.arrRef spec0 w)) :=
    ((dat m c).arrAt_in w hw _).trans (by
      show V1 m c _ = Function.update (V1 m c) _ _ _
      rw [Function.update_of_ne hne])
  match w with
  | 0 => exact hin 0 rfl (by decide)
  | 1 => exact hin 1 rfl (by decide)
  | 2 => exact hin 2 rfl (by decide)
  | 3 => exact hin 3 rfl (by decide)
  | 4 => exact hin 4 rfl (by decide)
  | 5 => exact (arrAt_out m c).trans (by
      show _ = Function.update (V1 m c) _ _ (Proc.devRef .tc main_v20)
      rw [Function.update_self])

/-! ### The body obligation -/

/-- To own a whole buffer is to hold it with its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = pw c b X := by
  unfold owns
  simp only [Memref.view_whole, View.read_whole, View.set_whole]
  have h1 : (iprop(∃ f : Buf (Elt F) ((c : Thread nD τ).loc b), ⌜f = X⌝ ∗ pw c b f) : sProp 𝕄) ⊢ pw c b X := by
    iintro ⟨%f, %h, H⟩; subst h; iexact H
  have h2 : pw c b X ⊢ (iprop(∃ f : Buf (Elt F) ((c : Thread nD τ).loc b), ⌜f = X⌝ ∗ pw c b f) : sProp 𝕄) := by
    iintro H; iexists X; isplitr; · ipureintro; rfl
    iexact H
  exact BI.equiv_iff.mp ⟨h1, h2⟩

/-- The first window's buffer, as the body is given it. -/
theorem staged_0 (c : Dev nD) (t : Fin cfg0.N) : iprop(∃ d, owns (c : Thread nD τ) ((cfg0.win 0).stage (cfg0.slots t 0)) fullShare ((dat m c).before 0 t d)) ⊢ pw c cc0_stg0_0 (IV m c).x := by
  iintro ⟨%d, H⟩
  iapply (Entails.of_eq ((congrArg _ (before_0 m c t d)).trans (owns_whole_eq c cc0_stg0_0 (IV m c).x))) $$ H
/-- The second window's buffer. -/
theorem staged_1 (c : Dev nD) (t : Fin cfg0.N) : iprop(∃ d, owns (c : Thread nD τ) ((cfg0.win 1).stage (cfg0.slots t 1)) fullShare ((dat m c).before 1 t d)) ⊢ pw c cc0_stg1_0 (IV m c).q := by
  iintro ⟨%d, H⟩
  iapply (Entails.of_eq ((congrArg _ (before_1 m c t d)).trans (owns_whole_eq c cc0_stg1_0 (IV m c).q))) $$ H
/-- The third window's buffer. -/
theorem staged_2 (c : Dev nD) (t : Fin cfg0.N) : iprop(∃ d, owns (c : Thread nD τ) ((cfg0.win 2).stage (cfg0.slots t 2)) fullShare ((dat m c).before 2 t d)) ⊢ pw c cc0_stg2_0 (IV m c).k := by
  iintro ⟨%d, H⟩
  iapply (Entails.of_eq ((congrArg _ (before_2 m c t d)).trans (owns_whole_eq c cc0_stg2_0 (IV m c).k))) $$ H
/-- The fourth window's buffer. -/
theorem staged_3 (c : Dev nD) (t : Fin cfg0.N) : iprop(∃ d, owns (c : Thread nD τ) ((cfg0.win 3).stage (cfg0.slots t 3)) fullShare ((dat m c).before 3 t d)) ⊢ pw c cc0_stg3_0 (IV m c).v := by
  iintro ⟨%d, H⟩
  iapply (Entails.of_eq ((congrArg _ (before_3 m c t d)).trans (owns_whole_eq c cc0_stg3_0 (IV m c).v))) $$ H
/-- The fifth window's buffer. -/
theorem staged_4 (c : Dev nD) (t : Fin cfg0.N) : iprop(∃ d, owns (c : Thread nD τ) ((cfg0.win 4).stage (cfg0.slots t 4)) fullShare ((dat m c).before 4 t d)) ⊢ pw c cc0_stg4_0 (IV m c).o := by
  iintro ⟨%d, H⟩
  iapply (Entails.of_eq ((congrArg _ (before_4 m c t d)).trans (owns_whole_eq c cc0_stg4_0 (IV m c).o))) $$ H
/-- The result window's buffer, with any contents. -/
theorem staged_5 (c : Dev nD) (t : Fin cfg0.N) : iprop(∃ d, owns (c : Thread nD τ) ((cfg0.win 5).stage (cfg0.slots t 5)) fullShare ((dat m c).before 5 t d))
    ⊢ iprop(∃ f, pw c cc0_stg5_0 f) := by
  iintro ⟨%d, H⟩
  iexists ((dat m c).before 5 t d)
  iapply (Entails.of_eq (owns_whole_eq c cc0_stg5_0 _)) $$ H

/-- The body at the region's one point, from its invariant before to its invariant after. -/
theorem body (c : Dev nD) : Pipeline.BodyObligation (dat m c) defs₀ 𝒱₀ () Set.univ := fun t => by
  obtain rfl := fin_N0 t
  rw [bigSep_W0, bigSep_W0]
  rw [show (dat m c).Φ (t0_0 : Fin cfg0.N).castSucc = iprop(Xk m c ∗ scr c ∗ ∃ r, prngReg c r) from rfl,
    show (dat m c).Φ (t0_0 : Fin cfg0.N).succ = iprop(Yk c ∗ (bigSep Finset.univ fun k : Fin 8 => semVal ((c : Thread nD τ), osem k) 0) ∗ scr c ∗ ∃ r, prngReg c r) from rfl]
  unfold Xk
  iintro ⟨⟨⟨⟨%κ, Hop⟩, Hcr, Hlev⟩, Hs, Hreg⟩, HO, H0, H1, H2, H3, H4, H5⟩
  ihave H0 := (staged_0 m c t0_0) $$ H0
  ihave H1 := (staged_1 m c t0_0) $$ H1
  ihave H2 := (staged_2 m c t0_0) $$ H2
  ihave H3 := (staged_3 m c t0_0) $$ H3
  ihave H4 := (staged_4 m c t0_0) $$ H4
  ihave H5 := (staged_5 m c t0_0) $$ H5
  icases H5 with ⟨%f, H5⟩
  ihave HO := (owesAt_elim (dat m c) (t0_0 : Fin cfg0.N).castSucc (O₀ c) (owed_point m c)) $$ HO
  iapply (bodyRun (IV m) κ c f)
  isplitr [Hreg]
  · unfold bodyPre ins
    isplitl [Hop]; · iexact Hop
    isplitl [Hcr]; · iexact Hcr
    isplitl [Hlev]; · iexact Hlev
    isplitl [Hs]; · iexact Hs
    isplitl [H0 H1 H2 H3 H4]
    · isplitl [H0]; · iexact H0
      isplitl [H1]; · iexact H1
      isplitl [H2]; · iexact H2
      isplitl [H3]; · iexact H3
      iexact H4
    isplitl [H5]; · iexact H5
    iexact HO
  unfold bodyPost ins Yk
  iintro ⟨Hb, Hv, Hs, ⟨H0, H1, H2, H3, H4⟩, H5, HO⟩
  isplitl [Hb Hv Hs Hreg]
  · isplitl [Hb]; · iexact Hb
    isplitl [Hv]; · iexact Hv
    isplitl [Hs]; · iexact Hs
    iexact Hreg
  isplitl [HO]; · iapply (owesAt_intro (dat m c) (t0_0 : Fin cfg0.N).succ 0 (owed_last m c) rfl); iexact HO
  isplitl [H0]; · iapply (Entails.of_eq (owns_whole_eq c cc0_stg0_0 (IV m c).x).symm) $$ H0
  isplitl [H1]; · iapply (Entails.of_eq (owns_whole_eq c cc0_stg1_0 (IV m c).q).symm) $$ H1
  isplitl [H2]; · iapply (Entails.of_eq (owns_whole_eq c cc0_stg2_0 (IV m c).k).symm) $$ H2
  isplitl [H3]; · iapply (Entails.of_eq (owns_whole_eq c cc0_stg3_0 (IV m c).v).symm) $$ H3
  isplitl [H4]; · iapply (Entails.of_eq (owns_whole_eq c cc0_stg4_0 (IV m c).o).symm) $$ H4
  rw [show outv (IV m) c f = outR (IV m) c from outv_indep (IV m) c f _]
  iapply (Entails.of_eq (owns_whole_eq c cc0_stg5_0 (outR (IV m) c)).symm) $$ H5

/-! ### The region's record -/

/-- The unscoped buffers the region's windows do not stage. -/
abbrev restRefs : Finset (DevRef τ sig) := Pipeline.ucRefs τ sig \ Pipeline.arrRefs (τ := τ) spec0

/-- The invariant at the start. -/
theorem phi_first (c : Dev nD) : (dat m c).Φ 0 = iprop(Xk m c ∗ scr c ∗ ∃ r, prngReg c r) := by
  show (if ((0 : Fin (cfg0.N + 1)).val = 0) then iprop(Xk m c ∗ scr c ∗ ∃ r, prngReg c r)
    else iprop(Yk c ∗ (bigSep Finset.univ fun k : Fin 8 => semVal ((c : Thread nD τ), osem k) 0) ∗ scr c ∗ ∃ r, prngReg c r)) = _
  exact if_pos rfl
/-- The invariant at the end. -/
theorem phi_last (c : Dev nD) : (dat m c).Φ (Fin.last cfg0.N)
    = iprop(Yk c ∗ (bigSep Finset.univ fun k : Fin 8 => semVal ((c : Thread nD τ), osem k) 0) ∗ scr c ∗ ∃ r, prngReg c r) := by
  show (if ((Fin.last cfg0.N).val = 0) then iprop(Xk m c ∗ scr c ∗ ∃ r, prngReg c r) else iprop(Yk c ∗ (bigSep Finset.univ fun k : Fin 8 => semVal ((c : Thread nD τ), osem k) 0) ∗ scr c ∗ ∃ r, prngReg c r)) = _
  exact if_neg (by rw [Fin.val_last, show cfg0.N = 1 from N_0]; decide)

/-- What the call is given makes up the invariant at the start. -/
theorem hin (c : Dev nD) : iprop(Pipeline.scopedRest spec0 c ∗ (∃ r, prngReg c r) ∗ StableHlo.held (c.tc : Thread nD τ) ∅ (V1 m c) ∗ Xk m c)
    ⊢ (dat m c).Φ 0 := by
  rw [show (dat m c).Φ 0 = iprop(Xk m c ∗ scr c ∗ ∃ r, prngReg c r) from phi_first m c, scopedRest0_eq]
  unfold scr
  iintro ⟨Hs, Hp, -, HX⟩
  isplitl [HX]; · iexact HX
  isplitl [Hs]; · iexact Hs
  iexact Hp

/-- The invariant at the end gives back what the call has to return. -/
theorem hout (c : Dev nD) : (dat m c).Φ (Fin.last cfg0.N)
    ⊢ iprop(Pipeline.scopedRest spec0 c ∗ (∃ r, prngReg c r) ∗ StableHlo.held (c.tc : Thread nD τ) ∅ (VE m c) ∗ Pipeline.ownSems0 osem c ∗ Yk c) := by
  rw [show (dat m c).Φ (Fin.last _) = iprop(Yk c ∗ (bigSep Finset.univ fun k : Fin 8 => semVal ((c : Thread nD τ), osem k) 0) ∗ scr c ∗ ∃ r, prngReg c r) from
      phi_last m c, scopedRest0_eq,
    show (StableHlo.held (c.tc : Thread nD τ) ∅ (VE m c) : sProp 𝕄) = iprop(emp) from BI.bigSep_empty]
  unfold scr
  iintro ⟨Hb, Hv, Hs, Hp⟩
  isplitl [Hs]; · iexact Hs
  isplitl [Hp]; · iexact Hp
  isplitr; · iempintro
  isplitl [Hv]; · iapply (show (bigSep Finset.univ fun k : Fin 8 => semVal ((c : Thread nD τ), osem k) 0 : sProp 𝕄) ⊢ Pipeline.ownSems0 osem c from .rfl) $$ Hv
  iexact Hb

/-- The core waits on its staging cells at level 0, which is below everything it owes. -/
theorem cut (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · exact above_O₀ c g i h
  · exact absurd h (Nat.lt_irrefl 0)

/-- Every window's array is held in full. -/
theorem share_full (c : Dev nD) (w : Fin cfg0.W) : (dat m c).share w = fullShare := by
  unfold Pipeline.Dat.share; split <;> rfl

/-- The windows' own semaphores lie at level zero. -/
theorem stage_level (c : Dev nD) : ∀ (w : Fin cfg0.W) (s : Fin ((cfg0.win w).nbuf)), lv ((c : Thread nD τ), .dma ((cfg0.win w).sem s)) () ≤ 0 := by
  have h : ∀ (w : Fin cfg0.W) (s : Fin ((cfg0.win w).nbuf)), ¬ (SemLoc.dma ((cfg0.win w).sem s) : SemLoc sig) = .reg barS
      ∧ ¬ ((SemLoc.dma ((cfg0.win w).sem s) : SemLoc sig) = recvS 0 ∨ (SemLoc.dma ((cfg0.win w).sem s) : SemLoc sig) = recvS 1)
      ∧ ¬ ((SemLoc.dma ((cfg0.win w).sem s) : SemLoc sig) = recvS 2 ∨ (SemLoc.dma ((cfg0.win w).sem s) : SemLoc sig) = recvS 3) := by decide
  intro w s
  obtain ⟨h1, h2, h3⟩ := h w s
  unfold lv
  rw [if_neg h1, if_neg h2, if_neg h3]

set_option backward.isDefEq.respectTransparency.types false in
/-- The kernel region, from the host operations' contents to the contents at the end. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ restRefs (Finset.empty_subset _) launch0.toP rfl (fun c => (body m c).loose)
    (fun _ => 0) O₀ (fun c => (owed_first m c).trans (zero_add _).symm) (owed_last m) (fun _ => rfl) (share_full m)
    (V1 m) (VE m) (fun c b hb => Function.update_of_ne (fun e => by
      subst e; exact absurd hb (by decide)) ..)
    (Tk m) Yk (Xk m) Yk (hopen m) (hin m) (hout m)
    (fun c => by iintro H; imodintro; iexact H)
    (fun _ => 0)
    ⟨fun c w s => by rw [L_tc]; exact Finset.mem_singleton_self _, stage_level, fun c t g i h => cut m c t g i h⟩
    (fun _ => iprop(emp))
    (hW m) (hW' m)

end Cert.AttnProof

end
-- ==== Proof.Launch.lean ====
/-
# The launch

What the launch funds (the barrier cells at once, the transfer cells to be opened later, one token per payment), how the
tokens and the credits reach the devices that spend them, and what every device then starts with.
-/
module

public import proofs.«01_k».proof.Proof.Region
public import Idealize.ShloMosaic.Lib.Pipeline.Launch

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-! ## Tokens -/

/-- A device's ten payments: its barrier's two, its eight transfer cells' one each. -/
abbrev tokSem : Fin 10 → SemLoc sig := fun i => if h : i.val < 2 then .reg barS else osem ⟨i.val - 2, by omega⟩
abbrev tokDuty : Fin 10 → Bool := fun i => i.val = 0

/-- The ten tokens of a device are different. -/
theorem tok_inj : Function.Injective (fun i : Fin 10 => (tokSem i, tokDuty i)) := by decide

def tokEmb : Dev nD × Fin 10 ↪ GSem nD τ sig × ℕ × Bool :=
  ⟨fun ci => (((ci.1 : Thread nD τ), tokSem ci.2), 0, tokDuty ci.2), fun _ _ h =>
    Prod.ext (congrArg (fun t : GSem nD τ sig × ℕ × Bool => t.1.1.1) h)
      (tok_inj (Prod.ext (congrArg (fun t : GSem nD τ sig × ℕ × Bool => t.1.2) h) (congrArg (fun t : GSem nD τ sig × ℕ × Bool => t.2.2) h)))⟩

/-- Every payment of every device. -/
def allToks : Finset (GSem nD τ sig × ℕ × Bool) := Finset.univ.map tokEmb

/-- The barrier cells are none of the copies' cells. -/
theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The tokens at one device's cells. -/
def toksAt (c : Dev nD) : sProp 𝕄 :=
  iprop(dutyTok ER (barCell c) 0 true ∗ dutyTok ER (barCell c) 0 false
    ∗ (bigSep Finset.univ fun k : Fin 4 => dutyTok ER (sendCell c k) 0 false)
    ∗ bigSep Finset.univ fun k : Fin 4 => dutyTok ER (recvCell c k) 0 false)

/-- A device's tokens, written out. -/
theorem toks_ten (c : Dev nD) :
    (bigSep Finset.univ fun i : Fin 10 => (dutyTok ER ((c : Thread nD τ), tokSem i) 0 (tokDuty i) : sProp 𝕄)) ⊢ toksAt c := by
  rw [bigSep_univ_eq_bigSepL [0, 1, 2, 3, 4, 5, 6, 7, 8, 9] (by decide) (by decide)]
  unfold toksAt
  rw [bigSep4, bigSep4]
  show iprop(dutyTok ER (barCell c) 0 true ∗ dutyTok ER (barCell c) 0 false
    ∗ dutyTok ER (sendCell c 0) 0 false ∗ dutyTok ER (sendCell c 1) 0 false ∗ dutyTok ER (sendCell c 2) 0 false ∗ dutyTok ER (sendCell c 3) 0 false
    ∗ dutyTok ER (recvCell c 0) 0 false ∗ dutyTok ER (recvCell c 1) 0 false ∗ dutyTok ER (recvCell c 2) 0 false ∗ dutyTok ER (recvCell c 3) 0 false) ⊢ _
  iintro ⟨H0, H1, H2, H3, H4, H5, H6⟩
  isplitl [H0]; · iexact H0
  isplitl [H1]; · iexact H1
  isplitr [H6]
  · isplitl [H2]; · iexact H2
    isplitl [H3]; · iexact H3
    isplitl [H4] <;> iassumption
  iexact H6

def flip1 : Dev nD ≃ Dev nD := ⟨p1, p1, p1_p1, p1_p1⟩
def flip2 : Dev nD ≃ Dev nD := ⟨p2, p2, p2_p2, p2_p2⟩
def flipK : Dev nD × Fin 4 ≃ Dev nD × Fin 4 :=
  ⟨fun x => (rp x.2 x.1, x.2), fun x => (rp x.2 x.1, x.2), fun x => Prod.ext (rp_rp x.2 x.1) rfl, fun x => Prod.ext (rp_rp x.2 x.1) rfl⟩

/-- The receive tokens reach the devices that send there. -/
theorem recv_around : (bigSep Finset.univ fun c : Dev nD => bigSep Finset.univ fun k : Fin 4 => (dutyTok ER (recvCell c k) 0 false : sProp 𝕄))
    = bigSep Finset.univ fun c : Dev nD => bigSep Finset.univ fun k : Fin 4 => dutyTok ER (recvCell (rp k c) k) 0 false := by
  rw [← bigSep_univ_prod (Φ := fun ck : Dev nD × Fin 4 => (dutyTok ER (recvCell ck.1 ck.2) 0 false : sProp 𝕄)),
    ← bigSep_univ_prod (Φ := fun ck : Dev nD × Fin 4 => (dutyTok ER (recvCell (rp ck.2 ck.1) ck.2) 0 false : sProp 𝕄)),
    bigSep_univ_equiv flipK (fun ck : Dev nD × Fin 4 => (dutyTok ER (recvCell ck.1 ck.2) 0 false : sProp 𝕄))]
  rfl

/-- The tokens at every device's cells, handed to the devices that pay with them. -/
theorem toks_around : (bigSep Finset.univ fun c : Dev nD => (toksAt c : sProp 𝕄)) ⊢ bigSep Finset.univ fun c : Dev nD => toksOf c := by
  unfold toksAt toksOf
  iintro H
  ihave H := unpair $$ H; icases H with ⟨H1, H⟩
  ihave H := unpair $$ H; icases H with ⟨H2, H⟩
  ihave H := unpair $$ H; icases H with ⟨H3, H4⟩
  iapply pairUp
  isplitl [H1]
  · iapply (Entails.of_eq (bigSep_univ_equiv flip1 (fun c : Dev nD => (dutyTok ER (barCell c) 0 true : sProp 𝕄)))) $$ H1
  iapply pairUp
  isplitl [H2]
  · iapply (Entails.of_eq (bigSep_univ_equiv flip2 (fun c : Dev nD => (dutyTok ER (barCell c) 0 false : sProp 𝕄)))) $$ H2
  iapply pairUp
  isplitl [H3]; · iexact H3
  iapply (Entails.of_eq recv_around) $$ H4

/-- All tokens, each with the device that pays with it. -/
theorem toks_deal : (bigSep allToks fun x => (dutyTok ER x.1 x.2.1 x.2.2 : sProp 𝕄)) ⊢ bigSep Finset.univ fun c : Dev nD => toksOf c := by
  unfold allToks
  rw [bigSep_map, bigSep_univ_prod]
  exact (bigSep_mono fun c _ => toks_ten (F := F) c).trans toks_around

/-! ## Credits -/

/-- What a tally at one core's cell is at another's. -/
theorem tally_cell (d c : Dev nD) (s t : SemLoc sig) (n : ℕ) :
    (tallyAt ((d : Thread nD τ), s) () n : CellTallies nD τ sig Unit) ((c : Thread nD τ), t) () = if c = d ∧ t = s then n else 0 := by
  rw [tallyAt_apply]
  by_cases h : c = d ∧ t = s
  · rw [if_pos h, if_pos ⟨by rw [h.1, h.2], rfl⟩]
  · rw [if_neg h, if_neg fun e => h ⟨congrArg (fun g : GSem nD τ sig => g.1.1) e.1, congrArg Prod.snd e.1⟩]

/-- What a device owes at a cell of another. -/
theorem owed_at (d c : Dev nD) (t : SemLoc sig) : O₀ d ((c : Thread nD τ), t) () =
    (if c = p1 d ∧ t = recvS 3 then N else 0) + (if c = p2 d ∧ t = recvS 2 then N else 0) + (if c = p2 d ∧ t = recvS 1 then N else 0)
      + (if c = p1 d ∧ t = recvS 0 then N else 0) + (if c = p2 d ∧ t = .reg barS then 1 else 0) + (if c = p1 d ∧ t = .reg barS then 1 else 0) := by
  unfold O₀ O1 O2 O3 O4 O5
  simp only [Pi.add_apply, Finsupp.add_apply, tally_cell]

/-- Being the first partner goes both ways. -/
theorem eq_p1 (d c : Dev nD) : (c = p1 d) = (d = p1 c) := propext ⟨fun h => by rw [h, p1_p1], fun h => by rw [h, p1_p1]⟩
/-- So does being the second. -/
theorem eq_p2 (d c : Dev nD) : (c = p2 d) = (d = p2 c) := propext ⟨fun h => by rw [h, p2_p2], fun h => by rw [h, p2_p2]⟩

/-- The devices together owe a barrier cell two signals. -/
theorem owed_bar (c : Dev nD) : ∑ d : Dev nD, O₀ d (barCell c) () = 2 := by
  have h (d : Dev nD) : O₀ d (barCell c) () = (if d = p2 c then 1 else 0) + (if d = p1 c then 1 else 0) := by
    rw [owed_at]
    have hb : ∀ k : Fin 4, (SemLoc.reg barS : SemLoc sig) ≠ recvS k := fun k => (osem_ne_bar _).symm
    simp only [hb, and_false, if_false, and_true, eq_p1, eq_p2, zero_add]
  rw [Finset.sum_congr rfl fun d _ => h d, Finset.sum_add_distrib, Finset.sum_ite_eq' Finset.univ (p2 c) fun _ => 1,
    Finset.sum_ite_eq' Finset.univ (p1 c) fun _ => 1, if_pos (Finset.mem_univ _), if_pos (Finset.mem_univ _)]

/-- They owe a receive cell one copy's worth. -/
theorem owed_recv (c : Dev nD) (k : Fin 4) : ∑ d : Dev nD, O₀ d (recvCell c k) () = N := by
  have h (d : Dev nD) : O₀ d (recvCell c k) () = if d = rp k c then N else 0 := by
    rw [owed_at]
    have hb : recvS k ≠ (SemLoc.reg barS : SemLoc sig) := osem_ne_bar _
    have hk (j : Fin 4) : (recvS k = recvS j) = (k = j) := propext (by revert k j; decide)
    simp only [hb, hk, and_false, if_false, eq_p1, eq_p2, add_zero]
    match k with
    | 0 => simp [rp] <;> rfl
    | 1 => simp [rp] <;> rfl
    | 2 => simp [rp] <;> rfl
    | 3 => simp [rp] <;> rfl
  rw [Finset.sum_congr rfl fun d _ => h d, Finset.sum_ite_eq' Finset.univ (rp k c) fun _ => N, if_pos (Finset.mem_univ _)]

/-- What is owed at a cell in all is what the launch gives its owner. -/
theorem launch_at (c : Dev nD) (t : SemLoc sig) (n : ℕ) (h : ∑ d : Dev nD, O₀ d ((c : Thread nD τ), t) () = n) :
    tallyOn ((c : Thread nD τ), t) (launchCredit (Pipeline.owing O₀) 0 ((c : Thread nD τ), t)) = (tallyAt ((c : Thread nD τ), t) () n : CellTallies nD τ sig Unit) := by
  unfold tallyAt
  refine congrArg _ (Finsupp.ext fun u => ?_)
  cases u
  rw [Pipeline.launchCredit_owing, Finsupp.single_eq_same, h]

def recvEmb : Fin 4 ↪ SemLoc sig := ⟨fun k => recvS k, by decide⟩

/-- The launch's credit of a core holds what it waits with. -/
theorem deal_creds (c : Dev nD) : (Pipeline.launchCred O₀ c : sProp 𝕄) ⊢ creds c := by
  unfold Pipeline.launchCred creds
  rw [bigSep_univ_at _ (SemLoc.reg barS), launch_at c _ 2 (owed_bar c)]
  refine sep_mono_right ?_
  have hsub : Finset.univ.map recvEmb ⊆ (Finset.univ : Finset (SemLoc sig)).erase (SemLoc.reg barS) := fun s hs => by
    obtain ⟨k, -, rfl⟩ := Finset.mem_map.mp hs
    exact Finset.mem_erase.mpr ⟨osem_ne_bar _, Finset.mem_univ _⟩
  refine Entails.trans (bigSep_subset hsub) (Entails.of_eq ?_)
  · rw [bigSep_map]
    exact bigSep_congr fun k _ => congrArg cred (launch_at c (recvS k) N (owed_recv c k))

/-! ## What every device starts with -/

/-- A resource as a family over the devices: all of it on one of them. -/
def onDev (c₀ : Dev nD) (X : sProp 𝕄) (c : Dev nD) : sProp 𝕄 := if c = c₀ then X else iprop(emp)
/-- A product that holds something at one device only is that. -/
theorem bigSep_onDev (c₀ : Dev nD) (X : sProp 𝕄) : bigSep Finset.univ (onDev c₀ X) = X := by
  have h : ∀ c ∈ Finset.univ.erase c₀, onDev c₀ X c = (BI.emp : sProp 𝕄) := fun c hc => if_neg (Finset.ne_of_mem_erase hc)
  rw [bigSep_univ_at _ c₀, bigSep_congr h, BI.bigSep_emp_const, show onDev c₀ X c₀ = X from if_pos rfl]
  exact BI.equiv_iff.mp sep_emp

def G : Dev nD → sProp 𝕄 := onDev 0 (BI.own (ER (launchOf barCells ownCells allToks)))

def u₀ : UU :=
  (initOf (Pipeline.cells (Pipeline.pin (pcfgs (F := F)) adm) cellOf_inj) (Pipeline.launchToks (Pipeline.pin (pcfgs (F := F)) adm) cellOf_inj),
    launchOf barCells ownCells allToks)

variable (m : (ℓ : Loc nD τ sig) → Buf (Elt F) ℓ) (ρ : Dev nD → PrngReg)

/-- What rides beside the arrays up to the kernel, and after it. -/
def E : Fin 2 → Dev nD → sProp 𝕄
  | 0, c => iprop(Tk m c ∗ (∃ r, prngReg c r) ∗ ∃ W, owes (c : Thread nD τ) (O₀ c) W)
  | 1, c => iprop(Yk c ∗ ∃ W, owes (c : Thread nD τ) (0 : CellTallies nD τ sig Unit) W)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (VE m c) ∗ semVal (barCell c) 0)

/-- The one semaphore that outlives the call is the barrier. -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's own part of the start: arrays, credits, dues, generator. -/
def base (c : Dev nD) : sProp 𝕄 :=
  iprop(StableHlo.held (c : Thread nD τ) (Pipeline.ucRefs τ sig) (V0 m c) ∗ creds c ∗ owes (c : Thread nD τ) (O₀ c) ∅ ∗ ∃ r, prngReg c r)

/-- The part that comes of the exchange's cells. -/
def share (c : Dev nD) : sProp 𝕄 :=
  iprop(atPos ER (barCell c) 0 ∅ 0 ∗ (bigSep Finset.univ fun k : Fin 8 => openTok ER ((c : Thread nD τ), osem k)) ∗ toksOf c)

/-- A device's share and base make up what it starts with. -/
theorem start_intro (κ : GSem nD τ sig → ℕ) (c : Dev nD) : iprop(recs (sent (IV m)) κ ∗ (share c ∗ base m c)) ⊢ T₀ m c := by
  unfold T₀ E Tk share base
  iintro ⟨#HR, ⟨Ha, Ho, Ht⟩, Hh, Hc, HO, Hp⟩
  isplitl [Hh]; · iexact Hh
  isplitl [Ha Ho Ht Hc]
  · isplitr [Hc]
    · iexists κ
      isplitr; · iexact HR
      isplitl [Ha]; · iexact Ha
      isplitl [Ho] <;> iassumption
    · iexact Hc
  isplitl [Hp]; · iexact Hp
  iexists ∅; iexact HO

/-- What the launch hands a device, sorted. -/
theorem base_intro (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(base m c ∗ (semVal (barCell c) 0 ∗ G c)) : sProp 𝕄) := by
  rw [show (unscopedBufs c (fun b => m ((c : Thread nD τ).loc b)) : sProp 𝕄) = StableHlo.held (c : Thread nD τ) (Pipeline.ucRefs τ sig) (V0 m c)
    from Pipeline.unscopedBufs_held c (V0 m c), unscoped_bar]
  unfold base
  iintro ⟨Hh, Hs, HO, Hc, Hp, HG⟩
  ihave Hc := (deal_creds (F := F) c) $$ Hc
  isplitr [Hs HG]
  · isplitl [Hh]; · iexact Hh
    isplitl [Hc]; · iexact Hc
    isplitl [HO]; · iexact HO
    iexists (ρ c); iexact Hp
  isplitl [Hs] <;> iassumption

/-- The same for all the devices at once. -/
theorem bases : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (bigSep Finset.univ fun c : Dev nD => iprop(base m c ∗ (semVal (barCell c) 0 ∗ G c)) : sProp 𝕄) :=
  bigSep_mono fun c _ => base_intro m ρ c

/-- The launch, on all devices at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopn : bigSep ownCells (fun g => (openTok ER g : sProp 𝕄))
      ⊢ bigSep Finset.univ (fun c : Dev nD => bigSep Finset.univ fun k : Fin 8 => openTok ER ((c : Thread nD τ), osem k)) :=
    Entails.of_eq (by rw [bigSep_map, bigSep_univ_prod]; rfl)
  iintro ⟨H, -⟩
  ihave H := (bases m ρ) $$ H
  ihave H := unpair $$ H; icases H with ⟨HB, H⟩
  ihave H := unpair $$ H; icases H with ⟨Hv, HG⟩
  ihave Hu := (show bigSep Finset.univ (G (F := F)) ⊢ BI.own (ER (launchOf barCells ownCells allToks)) from
    Entails.of_eq (bigSep_onDev (F := F) 0 (BI.own (ER (launchOf barCells ownCells allToks))))) $$ HG
  imod (Rounds.fund_launch ER (talkRd (sent (IV m))) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := recs (sent (IV m)) κ) (Φ := fun c => iprop(share c ∗ base m c)) fun c _ => start_intro m κ c)
  isplitr
  · unfold recs
    isplitr; · iexact Hinv
    iexact Hr
  iapply pairUp
  isplitr [HB]
  · unfold share
    iapply pairUp; isplitl [Hat]; · iapply hat $$ Hat
    iapply pairUp; isplitl [Hopen]; · iapply hopn $$ Hopen
    iapply toks_deal $$ Htok
  · iexact HB

end Cert.AttnProof

end
-- ==== Proof.Run.lean ====
/-
# The run

The kernel between its host operations and its end, and the whole run: the result array and the arguments on every
device, every counter at zero.
-/
module

public import proofs.«01_k».proof.Proof.Launch
public import Idealize.ShloMosaic.Lib.Quiescent
public import Idealize.ShloMosaic.Lib.Pipeline.Launch

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- The kernel is entered from what the host operations leave. -/
theorem entry (c : Dev nD) : iprop(StableHlo.held (c : Thread nD τ) (Pipeline.ucRefs τ sig) (V1 m c) ∗ E m 0 c) ⊢ (reg m).pre c := by
  show _ ⊢ iprop(StableHlo.held (c : Thread nD τ) (Pipeline.arrRefs (τ := τ) spec0) (V1 m c) ∗ (∃ r, prngReg c r)
    ∗ (StableHlo.held (c : Thread nD τ) restRefs (V1 m c) ∗ emp) ∗ Tk m c ∗ ∃ Wd, owes (c : Thread nD τ) (0 + O₀ c) Wd)
  rw [zero_add, StableHlo.held_sub_split (c : Thread nD τ) (Pipeline.arrRefs_sub_ucRefs (τ := τ) spec0 (by decide)) (V1 m c)]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the kernel leaves is the contents at the end and a barrier at zero. -/
theorem leave (c : Dev nD) : (reg m).post c ⊢ iprop(Tₙ m c ∗ ∃ W, owes (c : Thread nD τ) (0 : CellTallies nD τ sig Unit) W) := by
  show iprop(StableHlo.held (c : Thread nD τ) (Pipeline.arrRefs (τ := τ) spec0) (VE m c) ∗ (∃ r, prngReg c r)
    ∗ (StableHlo.held (c : Thread nD τ) restRefs (VE m c) ∗ emp) ∗ Yk c ∗ ∃ Wd, owes (c : Thread nD τ) (0 : CellTallies nD τ sig Unit) Wd) ⊢ _
  unfold Tₙ
  rw [StableHlo.held_sub_split (c : Thread nD τ) (Pipeline.arrRefs_sub_ucRefs (τ := τ) spec0 (by decide)) (VE m c)]
  unfold Yk
  iintro ⟨Ha, -, ⟨Hr, -⟩, Hb, HO⟩
  isplitr [HO]
  · isplitl [Ha Hr]
    · isplitl [Ha] <;> iassumption
    iexact Hb
  iexact HO

/-- The one semaphore that no call scopes is the barrier. -/
theorem only_bar : ∀ sm : SemLoc sig, sm.isScoped .tc = false → sm = .reg barS := by decide

/-- A device's array outside every scope is among those the launch hands over. -/
theorem is_held (r : Ref sig .tc) (h : r.isScoped = false) : (Proc.devRef .tc r : DevRef τ sig) ∈ Pipeline.ucRefs τ sig :=
  Finset.mem_filter.mpr ⟨StableHlo.devRef_mem_tcRefs r, by intro h'; exact Bool.false_ne_true (h.symm.trans h')⟩

set_option backward.isDefEq.respectTransparency.types false in
/-- The run: from any memory with zero counters every fair execution on the four devices ends, with every array as
    `VE` says on each device and every counter at zero. -/
theorem run_end : θ_run defs (onTc (τ := τ) (main (F := F))) ⟨m, fun _ => 0, ρ⟩
    (fun r => (∀ c : Dev nD, ∀ b ∈ Pipeline.ucRefs τ sig, r.2.mem (c, b) = VE m c b) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Seg.run_eq_chain,
        show (segs m 𝒱₀ L lv (E m) () (pdats m) (reg m) c).map Seg.prog = [StableHlo.seq (hostOps0 c), Prog.lift (.customCall (Pipeline.entry 0) ())] from rfl]
      dsimp (config := { failIfUnchanged := false }) only
      exact .rfl)
    (fun c => by simp only [segs, Seg.pipes_host, Seg.pipes_region, Seg.pipes_nil]; decide)
    O₀ L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ m) (Tₙ m)
    (fun c => ⟨.rfl, entry m c, leave m c⟩)
    (init m ρ)
    (fun c s => (∀ b ∈ Pipeline.ucRefs τ sig, s.mem (c, b) = VE m c b) ∧ s.sem (barCell c) = 0)
    (fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (VE m c) s') $$ [Hh HSI]
      · isplitl [Hh] <;> iassumption
      icases Hr with ⟨%hr, HSI⟩
      imodintro
      isplitr
      · ipureintro
        exact ⟨hr, by simpa using hb⟩
      iexact HSI)
    (fun s h hs => ⟨fun c => (h c).1, sem_eq_zero hs fun c sm hsm => by
      obtain rfl := only_bar sm hsm
      exact (h c).2⟩)

/-- The run, at the result and the arguments. -/
theorem run_main : θ_run defs (onTc (τ := τ) (main (F := F))) ⟨m, fun _ => 0, ρ⟩
    (fun r => (∀ c : Dev nD, r.2.mem ((c : Thread nD τ).loc main_v20) = outR (IV m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun r h => ⟨fun c => by
    have ha (x : Ref sig .tc) (hx : x.isScoped = false) (hne : (Proc.devRef .tc x : DevRef τ sig) ≠ Proc.devRef .tc main_v20) (hw : x ∉ hostOps0_W) :
        r.2.mem ((c : Thread nD τ).loc x) = m ((c : Thread nD τ).loc x) :=
      (h.1 c _ (is_held x hx)).trans ((Function.update_of_ne hne ..).trans (V1_of m c x hw))
    exact ⟨(h.1 c _ (is_held main_v20 rfl)).trans (Function.update_self ..), ha main_arg0 rfl (by decide) (by decide),
      ha main_arg1 rfl (by decide) (by decide), ha main_arg2 rfl (by decide) (by decide), ha main_arg3 rfl (by decide) (by decide),
      ha main_arg4 rfl (by decide) (by decide)⟩, h.2⟩) (run_end m ρ)

end Cert.AttnProof

end
-- ==== Proof.KerMask.lean ====
/-
# The kernel's mask

The mask that the body builds from two counts along the axes keeps a pair of positions exactly when they lie in the
same block of 64.
-/
module

public import proofs.«01_k».proof.Proof.Blocks
public import Idealize.ShloMosaic.Lib.Pointwise

@[expose] public section

noncomputable section

namespace Cert.AttnProof

open Cert.KernelIdeal Cert.KernelIdeal.Gen
open Idealize.ShloMosaic

/-- The block number along the rows is the row divided by 64. -/
theorem w40_apply (i j : Fin 128) : w40 (ix2 i j) = BitVec.ofNat 32 (i / 64) := by
  pointwise [w40, wI, k0_pay5, k0_pay2, k0_pay3, k0_pay4]
  revert i; decide

/-- The block number along the columns is the column divided by 64. -/
theorem pay6_apply (i j : Fin 128) : k0_pay6 (ix2 i j) = BitVec.ofNat 32 (j / 64) := by
  pointwise [k0_pay6]
  revert j; decide

/-- The comparison of the two block numbers. -/
theorem w66_apply (i j : Fin 128) :
    w66 (ix2 i j) = IntOp.cmpi .eq (BitVec.ofNat 32 (i / 64)) (BitVec.ofNat 32 (j / 64)) := by
  show IntOp.cmpi .eq (w40 (ix2 i j)) (k0_pay6 (ix2 i j)) = _
  rw [w40_apply, pay6_apply]

/-- The mask keeps a pair of positions exactly when their block numbers agree. -/
theorem msk_apply (i j : Fin 128) : msk (ix2 i j) = if (i : ℕ) / 64 = j / 64 then 1#1 else 0#1 := by
  pointwise [msk, k0_pay11, k0_pay8, k0_pay9, k0_pay10, w68, w40_apply, w66_apply, pay6_apply]
  have hi : (i : ℕ) / 64 < 2 := by omega
  have hj : (j : ℕ) / 64 < 2 := by omega
  generalize (i : ℕ) / 64 = a at hi ⊢
  generalize (j : ℕ) / 64 = b at hj ⊢
  interval_cases a <;> interval_cases b <;> decide

end Cert.AttnProof

end
-- ==== Proof.Soft.lean ====
/-
# One head of attention over the extended reals

The mathematics that the kernel and the reference share: a masked, scaled row of products, its softmax, and the
weighted sum of the values.
-/
module

public import Idealize.ShloMosaic.Lib.Pointwise

@[expose] public section

noncomputable section

namespace Cert.AttnProof

open Idealize.ShloMosaic

/-- The entry of the scaled products at row `i`, column `j`: kept within a block of 64, else the mask's value. -/
def kept (i j : Fin 128) (l : EReal) : EReal :=
  Scalar.select (if (i : ℕ) / 64 = j / 64 then 1#1 else 0#1) (l * Ideal.ofBits .f32 0x3E000000#32) (Ideal.ofBits .f32 0xCE6E6B28#32)

/-- The exponential of an entry's distance to the row's greatest entry. -/
def expd (f : Fin 128 → EReal) (j : Fin 128) : EReal :=
  Ideal.exp (f j - Finset.fold max (Ideal.ofBits .f32 0xFF800000#32) f Finset.univ)

/-- The softmax of a row. -/
def soft (f : Fin 128 → EReal) (j : Fin 128) : EReal := Ideal.div (expd f j) (∑ x, expd f x)

/-- Row `i` of a head: the softmax of the masked products of its query `q` with the keys `k`, times the values `v`. -/
def headRow (i : Fin 128) (q : Fin 64 → EReal) (k v : Fin 128 → Fin 64 → EReal) (d : Fin 64) : EReal :=
  ∑ j, soft (fun j => kept i j (∑ e, q e * k j e)) j * v j d

end Cert.AttnProof

end
-- ==== Proof.Heads.lean ====
/-
# One head of the kernel

`lg`, `wts`, `cx`, `pj` are the steps that the body takes for each head: the products of its queries and keys, the
masked softmax, the product with its values, the product with its rows of the output weights. The partial results of
the two batches are sums of four of them.
-/
module

public import proofs.«01_k».proof.Proof.KerMask
public import proofs.«01_k».proof.Proof.Soft

@[expose] public section

noncomputable section

namespace Cert.AttnProof

open Cert.KernelIdeal Cert.KernelIdeal.Gen
open Idealize.ShloMosaic

section Steps

variable {F : FTy → Type} [FloatOps F]

/-- The products of a head's queries and keys. -/
def lg (q : FVec F S128x64 .bf16) (k : Vec F S1x128x64 .bf16) : FVec F S128x128 .f32 :=
  matmul dot_S128x64_S128x64_S128x128_1_1_0_0_n_n none q (shapeCast S128x64 k shapeCasts_S1x128x64_S128x64)
    (constant S128x128 .f32 0x00000000#32)

/-- The scaled, masked products. -/
def ml (mk : IVec S128x128 1) (l : FVec F S128x128 .f32) : FVec F S128x128 .f32 :=
  select mk (mulf l (broadcast S128x128 (Scalar.ofBits .f32 0x3E000000#32))) (broadcast S128x128 (Scalar.ofBits .f32 0xCE6E6B28#32))

/-- The exponentials of the distances to the row's greatest entry. -/
def ex (x : FVec F S128x128 .f32) : FVec F S128x128 .f32 :=
  exp (subf x (broadcastTo S128x128 (shapeCast S128x1 (multiReduction .maximumf [1] S128 x 0xFF800000#32 reduces_S128x128_S128 (.inl rfl) rfl)
    shapeCasts_S128_S128x1) broadcasts_S128x1_S128x128))

/-- Each row divided by its sum. -/
def nrm (e : FVec F S128x128 .f32) : FVec F S128x128 .bf16 :=
  truncf .bf16 (divf e (broadcastTo S128x128 (shapeCast S128x1 (multiReduction .add [1] S128 e 0x00000000#32 reduces_S128x128_S128 (.inl rfl) rfl)
    shapeCasts_S128_S128x1) broadcasts_S128x1_S128x128)) bitsLt_bf16_f32

/-- The product with a head's values. -/
def cx (a : FVec F S128x128 .bf16) (v : Vec F S1x128x64 .bf16) : FVec F S128x64 .bf16 :=
  truncf .bf16 (matmul dot_S128x128_S128x64_S128x64_1_0_0_1_n_n none a (shapeCast S128x64 v shapeCasts_S1x128x64_S128x64)
    (constant S128x64 .f32 0x00000000#32)) bitsLt_bf16_f32

/-- The product with 64 rows of the output weights. -/
def pj (x : FVec F S128x64 .bf16) (o : Vec F S64x512 .bf16) : FVec F S128x512 .f32 :=
  matmul dot_S128x64_S64x512_S128x512_1_0_0_1_n_n none x (shapeCast S64x512 o shapeCasts_S64x512_S64x512)
    (constant S128x512 .f32 0x00000000#32)

/-- One head's contribution. -/
def hd (q : FVec F S128x64 .bf16) (k v : Vec F S1x128x64 .bf16) (o : Vec F S64x512 .bf16) : FVec F S128x512 .f32 :=
  pj (cx (nrm (ex (ml msk (lg q k)))) v) o

/-- Four contributions, added from zero, as a block of the communication buffer. -/
def four (a b c d : FVec F S128x512 .f32) : Blk F :=
  shapeCast S1x128x512 (truncf .bf16 (addf (addf (addf (addf (broadcast S128x512 (Scalar.ofBits .f32 0x00000000#32)) a) b) c) d)
    bitsLt_bf16_f32) shapeCasts_S128x512_S1x128x512

namespace Ins

variable (I : Ins F)

/-- The first batch's partial result is the sum of its four heads' contributions. -/
theorem blk0_eq : I.blk0 = four
    (hd (extractStridedSlice S128x64 ![0, 0] I.qv slices_S256x256_o0_0_S128x64) (I.ldK 0 inb_S8x128x64_S1x128x64_0_0_0)
      (I.ldV 0 inb_S8x128x64_S1x128x64_0_0_0) (I.ldO 0 inb_S256x512_S64x512_0_0))
    (hd (extractStridedSlice S128x64 ![0, 64] I.qv slices_S256x256_o0_64_S128x64) (I.ldK 1 inb_S8x128x64_S1x128x64_1_0_0)
      (I.ldV 1 inb_S8x128x64_S1x128x64_1_0_0) (I.ldO 64 inb_S256x512_S64x512_64_0))
    (hd (extractStridedSlice S128x64 ![0, 128] I.qv slices_S256x256_o0_128_S128x64) (I.ldK 2 inb_S8x128x64_S1x128x64_2_0_0)
      (I.ldV 2 inb_S8x128x64_S1x128x64_2_0_0) (I.ldO 128 inb_S256x512_S64x512_128_0))
    (hd (extractStridedSlice S128x64 ![0, 192] I.qv slices_S256x256_o0_192_S128x64) (I.ldK 3 inb_S8x128x64_S1x128x64_3_0_0)
      (I.ldV 3 inb_S8x128x64_S1x128x64_3_0_0) (I.ldO 192 inb_S256x512_S64x512_192_0)) := rfl

/-- So is the second batch's. -/
theorem blk1_eq : I.blk1 = four
    (hd (extractStridedSlice S128x64 ![128, 0] I.qv slices_S256x256_o128_0_S128x64) (I.ldK 4 inb_S8x128x64_S1x128x64_4_0_0)
      (I.ldV 4 inb_S8x128x64_S1x128x64_4_0_0) (I.ldO 0 inb_S256x512_S64x512_0_0))
    (hd (extractStridedSlice S128x64 ![128, 64] I.qv slices_S256x256_o128_64_S128x64) (I.ldK 5 inb_S8x128x64_S1x128x64_5_0_0)
      (I.ldV 5 inb_S8x128x64_S1x128x64_5_0_0) (I.ldO 64 inb_S256x512_S64x512_64_0))
    (hd (extractStridedSlice S128x64 ![128, 128] I.qv slices_S256x256_o128_128_S128x64) (I.ldK 6 inb_S8x128x64_S1x128x64_6_0_0)
      (I.ldV 6 inb_S8x128x64_S1x128x64_6_0_0) (I.ldO 128 inb_S256x512_S64x512_128_0))
    (hd (extractStridedSlice S128x64 ![128, 192] I.qv slices_S256x256_o128_192_S128x64) (I.ldK 7 inb_S8x128x64_S1x128x64_7_0_0)
      (I.ldV 7 inb_S8x128x64_S1x128x64_7_0_0) (I.ldO 192 inb_S256x512_S64x512_192_0)) := rfl

end Ins

end Steps

/-! Each step read at an entry, over the extended reals. -/

/-- A product of queries and keys, at an entry. -/
theorem lg_apply (q : FVec Ideal S128x64 .bf16) (k : Vec Ideal S1x128x64 .bf16) (i j : Fin 128) :
    lg q k (ix2 i j) = ∑ d : Fin 64, q (ix2 i d) * k (ix3 0 j d) := by
  pointwise [lg]

/-- A scaled, masked product, at an entry. -/
theorem ml_apply (l : FVec Ideal S128x128 .f32) (i j : Fin 128) : ml msk l (ix2 i j) = kept i j (l (ix2 i j)) := by
  pointwise [ml, msk_apply, kept]

/-- An exponential, at an entry. -/
theorem ex_apply (x : FVec Ideal S128x128 .f32) (i j : Fin 128) : ex x (ix2 i j) = expd (fun y => x (ix2 i y)) j := by
  pointwise [ex, expd]

/-- A weight: an exponential over its row's sum. -/
theorem nrm_apply (e : FVec Ideal S128x128 .f32) (i j : Fin 128) :
    nrm e (ix2 i j) = Ideal.div (e (ix2 i j)) (∑ y, e (ix2 i y)) := by
  pointwise [nrm]

/-- A product with the values, at an entry. -/
theorem cx_apply (a : FVec Ideal S128x128 .bf16) (v : Vec Ideal S1x128x64 .bf16) (i : Fin 128) (d : Fin 64) :
    cx a v (ix2 i d) = ∑ y, a (ix2 i y) * v (ix3 0 y d) := by
  pointwise [cx]

/-- A product with the output weights, at an entry. -/
theorem pj_apply (x : FVec Ideal S128x64 .bf16) (o : Vec Ideal S64x512 .bf16) (i : Fin 128) (n : Fin 512) :
    pj x o (ix2 i n) = ∑ d, x (ix2 i d) * o (ix2 d n) := by
  pointwise [pj]

/-- A sum of four contributions, at an entry. -/
theorem four_apply (a b c d : FVec Ideal S128x512 .f32) (i : Fin 128) (n : Fin 512) :
    four a b c d (ix3 0 i n) = a (ix2 i n) + b (ix2 i n) + c (ix2 i n) + d (ix2 i n) := by
  pointwise [four]

/-- One head's contribution at an entry. -/
theorem hd_apply (q : FVec Ideal S128x64 .bf16) (k v : Vec Ideal S1x128x64 .bf16) (o : Vec Ideal S64x512 .bf16) (i : Fin 128)
    (n : Fin 512) :
    hd q k v o (ix2 i n) = ∑ d, headRow i (fun e => q (ix2 i e)) (fun y e => k (ix3 0 y e)) (fun y e => v (ix3 0 y e)) d * o (ix2 d n) := by
  unfold hd headRow soft
  simp only [pj_apply, cx_apply, nrm_apply, ex_apply, ml_apply, lg_apply]

end Cert.AttnProof

end
-- ==== Proof.Partial.lean ====
/-
# A device's partial results

The partial result of one batch on one device, over the extended reals, in terms of the five operands the body is given.
-/
module

public import proofs.«01_k».proof.Proof.Heads

@[expose] public section

noncomputable section

namespace Cert.AttnProof

open Cert.KernelIdeal Cert.KernelIdeal.Gen
open Idealize.ShloMosaic

variable (I : Ins Ideal)

/-- Loads of the whole operands, and of one head or of 64 rows, read at an entry. -/
theorem ldX_apply (r : Fin 256) (t : Fin 512) : I.ldX (ix2 r t) = I.x (ix2 r t) := by
  unfold Ins.ldX
  rw [View.readAt_apply]
  show I.x _ = _
  pointwise []
  rfl

/-- The query weights, loaded whole, at an entry. -/
theorem ldQ_apply (t : Fin 512) (e : Fin 256) : I.ldQ (ix2 t e) = I.q (ix2 t e) := by
  unfold Ins.ldQ
  rw [View.readAt_apply]
  show I.q _ = _
  pointwise []
  rfl

/-- One head's keys, at an entry. -/
theorem ldK_apply (j : ℕ) (h) (y : Fin 128) (e : Fin 64) : I.ldK j h (ix3 0 y e) = I.k (ix3 ⟨j, h 0⟩ y e) := by
  unfold Ins.ldK
  rw [View.readAt_apply]
  show I.k _ = _
  pointwise []
  rfl

/-- One head's values, at an entry. -/
theorem ldV_apply (j : ℕ) (h) (y : Fin 128) (e : Fin 64) : I.ldV j h (ix3 0 y e) = I.v (ix3 ⟨j, h 0⟩ y e) := by
  unfold Ins.ldV
  rw [View.readAt_apply]
  show I.v _ = _
  pointwise []
  rfl

/-- Sixty-four rows of the output weights, at an entry. -/
theorem ldO_apply (j : ℕ) (h) (d : Fin 64) (n : Fin 512) :
    I.ldO j h (ix2 d n) = I.o (ix2 ⟨j + d, lt_of_lt_of_le (Nat.add_lt_add_left d.isLt j) (h 0)⟩ n) := by
  unfold Ins.ldO
  rw [View.readAt_apply]
  show I.o _ = _
  pointwise []
  rfl

/-- The projected queries at an entry. -/
theorem qv_apply (r e : Fin 256) : I.qv (ix2 r e) = ∑ t, I.x (ix2 r t) * I.q (ix2 t e) := by
  pointwise [Ins.qv, k0_pay1, ldX_apply, ldQ_apply]

/-- The partial result of batch `b` at row `i`, column `n`: over the device's four heads and their 64 coordinates. -/
def part (b : Fin 2) (i : Fin 128) (n : Fin 512) : EReal :=
  ∑ h : Fin 4, ∑ d : Fin 64,
    headRow i (fun e => ∑ t, I.x (ix2 ⟨128 * b + i, by omega⟩ t) * I.q (ix2 t ⟨64 * h + e, by omega⟩))
      (fun y e => I.k (ix3 ⟨4 * b + h, by omega⟩ y e)) (fun y e => I.v (ix3 ⟨4 * b + h, by omega⟩ y e)) d
    * I.o (ix2 ⟨64 * h + d, by omega⟩ n)

/-- The blocks that the body stores are the partial results. -/
theorem blk0_apply (i : Fin 128) (n : Fin 512) : I.blk0 (ix3 0 i n) = part I 0 i n := by
  rw [Ins.blk0_eq, four_apply]
  simp only [hd_apply, part, Fin.sum_univ_four]
  simp only [ldK_apply, ldV_apply, ldO_apply]
  pointwise [qv_apply]

/-- The second batch's partial result, at an entry. -/
theorem blk1_apply (i : Fin 128) (n : Fin 512) : I.blk1 (ix3 0 i n) = part I 1 i n := by
  rw [Ins.blk1_eq, four_apply]
  simp only [hd_apply, part, Fin.sum_univ_four]
  simp only [ldK_apply, ldV_apply, ldO_apply]
  pointwise [qv_apply]

end Cert.AttnProof

end
-- ==== Proof.Result.lean ====
/-
# The kernel's result

After the two rounds of exchange every device holds the sum of all four devices' partial results.
-/
module

public import proofs.«01_k».proof.Proof.Partial
public import proofs.«01_k».proof.Proof.Region

@[expose] public section

noncomputable section

namespace Cert.AttnProof

open Cert.KernelIdeal Cert.KernelIdeal.Gen
open Idealize.ShloMosaic

section Stores

variable {F : FTy → Type} [FloatOps F] (I : Dev nD → Ins F)

/-- The second batch of the result is what the second store puts there. -/
theorem outR_one (c : Dev nD) (i : Fin 128) (n : Fin 512) : outR I c (ix3 1 i n) = res1 I c (ix3 0 i n) := by
  have e : (ix3 1 i n : S2x128x512.Idx)
      = (outM.access (Rect.unit (s := S2x128x512) ![1, 0, 0] S1x128x512.size inb_S2x128x512_S1x128x512_1_0_0)).emb (ix3 0 i n : S1x128x512.Idx) := by
    funext a
    match a with
    | 0 => rfl
    | 1 => exact Fin.ext (by show (i : ℕ) = 0 + 1 * i; omega)
    | 2 => exact Fin.ext (by show (n : ℕ) = 0 + 1 * n; omega)
  unfold outR outv
  rw [e, View.write_emb_of_mem _ _ (Finset.mem_univ _)]
  rfl

/-- The first batch is what the first store puts there: the second store leaves it alone. -/
theorem outR_zero (c : Dev nD) (i : Fin 128) (n : Fin 512) : outR I c (ix3 0 i n) = res0 I c (ix3 0 i n) := by
  have e : (ix3 0 i n : S2x128x512.Idx)
      = (outM.access (Rect.unit (s := S2x128x512) ![0, 0, 0] S1x128x512.size inb_S2x128x512_S1x128x512_0_0_0)).emb (ix3 0 i n : S1x128x512.Idx) := by
    funext a
    match a with
    | 0 => rfl
    | 1 => exact Fin.ext (by show (i : ℕ) = 0 + 1 * i; omega)
    | 2 => exact Fin.ext (by show (n : ℕ) = 0 + 1 * n; omega)
  unfold outR outv
  rw [View.write_of_not_mem]
  · rw [e, View.write_emb_of_mem _ _ (Finset.mem_univ _)]
    rfl
  · intro h
    obtain ⟨x, -, hx⟩ := Finset.mem_map.mp h
    have h0 : 1 + 1 * (x 0).val = 0 := congrArg Fin.val (congrFun hx 0)
    omega

end Stores

variable (I : Dev nD → Ins Ideal)

/-- The first batch's block on device `c`, as four partial results. -/
theorem res0_apply (c : Dev nD) (i : Fin 128) (n : Fin 512) :
    res0 I c (ix3 0 i n) = part (I c) 0 i n + part (I (p1 c)) 0 i n + (part (I (p2 c)) 0 i n + part (I (p1 (p2 c))) 0 i n) := by
  pointwise [res0, sent, k0_pay28, k0_pay26, blk0_apply]

/-- The second batch's block. -/
theorem res1_apply (c : Dev nD) (i : Fin 128) (n : Fin 512) :
    res1 I c (ix3 0 i n) = part (I c) 1 i n + part (I (p2 c)) 1 i n + (part (I (p1 c)) 1 i n + part (I (p2 (p1 c))) 1 i n) := by
  pointwise [res1, sent, k0_pay30, k0_pay29, k0_pay27, blk1_apply]

/-- Over the four devices, a device, its two partners and their common partner are all of them. -/
theorem sum_first (f : Dev nD → EReal) (c : Dev nD) : f c + f (p1 c) + (f (p2 c) + f (p1 (p2 c))) = ∑ x, f x := by
  have e : ∑ x, f x = f 0 + f 1 + f 2 + f 3 := Fin.sum_univ_four f
  rw [e]
  match c with
  | 0 => show f 0 + f 1 + (f 3 + f 2) = _; abel
  | 1 => show f 1 + f 0 + (f 2 + f 3) = _; abel
  | 2 => show f 2 + f 3 + (f 1 + f 0) = _; abel
  | 3 => show f 3 + f 2 + (f 0 + f 1) = _; abel

/-- The other order of the exchange visits every device too. -/
theorem sum_second (f : Dev nD → EReal) (c : Dev nD) : f c + f (p2 c) + (f (p1 c) + f (p2 (p1 c))) = ∑ x, f x := by
  rw [← sum_first f c, show p2 (p1 c) = p1 (p2 c) from by revert c; decide]
  abel

/-- Every device's result at an entry is the sum of the devices' partial results there. -/
theorem outR_apply (c : Dev nD) (b : Fin 2) (i : Fin 128) (n : Fin 512) :
    outR I c (ix3 b i n) = ∑ x, part (I x) b i n := by
  match b with
  | 0 => exact (outR_zero I c i n).trans ((res0_apply I c i n).trans (sum_first (fun x => part (I x) 0 i n) c))
  | 1 => exact (outR_one I c i n).trans ((res1_apply I c i n).trans (sum_second (fun x => part (I x) 1 i n) c))

end Cert.AttnProof

end
-- ==== Proof.HostVals.lean ====
/-
# What the host passes to the body

The host flattens the rows of the two batches, and takes from the keys and the values the four heads of its device.
-/
module

public import proofs.«01_k».proof.Proof.Result
public import Idealize.ShloMosaic.Lib.StableHlo.ReadAt
public import Idealize.ShloMosaic.Lib.Tactic.WordOmega

@[expose] public section

noncomputable section

namespace Cert.AttnProof

open Cert.KernelIdeal Cert.KernelIdeal.Gen
open Idealize.ShloMosaic Idealize.ShloMosaic.TcCoe

variable (m : (ℓ : Loc nD τ sig) → Buf (Elt Ideal) ℓ)

/-- The rows of the two batches, one after the other. -/
theorem x_apply (c : Dev nD) (b : Fin 2) (i : Fin 128) (t : Fin 512) :
    (IV m c).x (ix2 ⟨128 * b + i, by omega⟩ t) = (m ((c.tc : Thread nD τ).loc main_arg0) : FVec Ideal S2x128x512 .bf16) (ix3 b i t) := by
  show StableHlo.after (hostOps0 c) (V0 m c) main_v5 _ = _
  unfold hostOps0
  after_reads_at

/-- Four times the device's word. -/
def four_words (c : Dev nD) : IVec S_ 32 :=
  muli (id (Host.remui (Host.divui (constantI S_ 32 (Dev.word c)) (constantI S_ 32 1#32)) (constantI S_ 32 4#32))) (constantI S_ 32 4#32)

/-- The same, wrapped into the axis of sixteen heads. -/
def start (c : Dev nD) : IVec S_ 32 :=
  select (cmpi .slt (four_words c) (constantI S_ 32 0#32)) (addi (four_words c) (constantI S_ 32 16#32)) (four_words c)

/-- It is the number of the device's first head. -/
theorem start_toInt (c : Dev nD) : (start c (Shape.Idx.first h_S_)).toInt = 4 * (c : ℕ) := by
  match c with
  | 0 => rfl
  | 1 => rfl
  | 2 => rfl
  | 3 => rfl

/-- Two places with the same four coordinates are one. -/
theorem ix4_congr {n₀ n₁ n₂ n₃ : ℕ} {a a' : Fin n₀} {b b' : Fin n₁} {c c' : Fin n₂} {d d' : Fin n₃} (ha : a = a') (hb : b = b') (hc : c = c')
    (hd : d = d') : (ix4 a b c d : (⟨4, ![n₀, n₁, n₂, n₃]⟩ : Shape).Idx) = ix4 a' b' c' d' := by
  subst ha hb hc hd; rfl

/-- Four heads of a device all lie in the array: the slice starts where it is asked to. -/
theorem clamp_start (hr : S2x128x4x64.rank = S2x128x16x64.rank) (c : Dev nD) (a : Fin 4) :
    Host.clampedStart S2x128x16x64 S2x128x4x64 hr ![0, 0, 4 * (c : ℕ), 0] a = if a = 2 then 4 * (c : ℕ) else 0 := by
  match a, c with
  | 0, _ => rfl
  | 1, _ => rfl
  | 3, _ => rfl
  | 2, 0 => rfl
  | 2, 1 => rfl
  | 2, 2 => rfl
  | 2, 3 => rfl

/-- What the host computes for the keys' first head. -/
theorem start_k (c : Dev nD) : (StableHlo.upto (hostOps0 c) (V0 m c) 17 (Proc.devRef .tc main_v9) : IVec S_ 32) = start c := by
  unfold hostOps0
  after_reads_simp
  rfl

/-- The kernel's keys, as the host's operations on the argument. -/
theorem k_eq (c : Dev nD) :
    (IV m c).k = shapeCast S8x128x64 (transpose S2x4x128x64 [0, 2, 1, 3] (Host.dynamicSlice S2x128x4x64
      (m ((c.tc : Thread nD τ).loc main_arg2) : FVec Ideal S2x128x16x64 .bf16) ![0, 0, (start c (Shape.Idx.first h_S_)).toInt, 0]
      sliceFits_S2x128x16x64_S2x128x4x64) transposes_S2x128x4x64_S2x4x128x64_0_2_1_3) shapeCasts_S2x4x128x64_S8x128x64 := by
  show StableHlo.after (hostOps0 c) (V0 m c) main_v17 = _
  unfold hostOps0
  after_reads_simp
  refine congrArg (fun f => shapeCast S8x128x64 (transpose S2x4x128x64 [0, 2, 1, 3] (Host.dynamicSlice S2x128x4x64
      (m ((c.tc : Thread nD τ).loc main_arg2) : FVec Ideal S2x128x16x64 .bf16) f sliceFits_S2x128x16x64_S2x128x4x64)
      transposes_S2x128x4x64_S2x4x128x64_0_2_1_3) shapeCasts_S2x4x128x64_S8x128x64) (funext fun k => ?_)
  match k with
  | 0 => rfl
  | 1 => rfl
  | 2 => exact congrArg BitVec.toInt (congrFun (start_k m c) (Shape.Idx.first h_S_))
  | 3 => rfl

/-- The device's four heads of the keys. -/
theorem k_apply (c : Dev nD) (b : Fin 2) (h : Fin 4) (y : Fin 128) (e : Fin 64) :
    (IV m c).k (ix3 ⟨4 * b + h, by omega⟩ y e)
      = (m ((c.tc : Thread nD τ).loc main_arg2) : FVec Ideal S2x128x16x64 .bf16)
          (ix4 b y ⟨4 * c + h, by have := c.isLt; change c.val < 4 at this; omega⟩ e) := by
  rw [k_eq, start_toInt]
  pointwise []
  refine congrArg _ (ix4_congr ?_ ?_ ?_ ?_) <;> exact Fin.ext (by
    show Host.clampedStart S2x128x16x64 S2x128x4x64 _ ![0, 0, 4 * ((c : ℕ) : ℤ), 0] _ + _ = _
    rw [clamp_start]; simp)

/-- What the host computes for the values' first head. -/
theorem start_v (c : Dev nD) : (StableHlo.upto (hostOps0 c) (V0 m c) 28 (Proc.devRef .tc main_v14) : IVec S_ 32) = start c := by
  unfold hostOps0
  after_reads_simp
  rfl

/-- The kernel's values, as the host's operations on the argument. -/
theorem v_eq (c : Dev nD) :
    (IV m c).v = shapeCast S8x128x64 (transpose S2x4x128x64 [0, 2, 1, 3] (Host.dynamicSlice S2x128x4x64
      (m ((c.tc : Thread nD τ).loc main_arg3) : FVec Ideal S2x128x16x64 .bf16) ![0, 0, (start c (Shape.Idx.first h_S_)).toInt, 0]
      sliceFits_S2x128x16x64_S2x128x4x64) transposes_S2x128x4x64_S2x4x128x64_0_2_1_3) shapeCasts_S2x4x128x64_S8x128x64 := by
  show StableHlo.after (hostOps0 c) (V0 m c) main_v19 = _
  unfold hostOps0
  after_reads_simp
  refine congrArg (fun f => shapeCast S8x128x64 (transpose S2x4x128x64 [0, 2, 1, 3] (Host.dynamicSlice S2x128x4x64
      (m ((c.tc : Thread nD τ).loc main_arg3) : FVec Ideal S2x128x16x64 .bf16) f sliceFits_S2x128x16x64_S2x128x4x64)
      transposes_S2x128x4x64_S2x4x128x64_0_2_1_3) shapeCasts_S2x4x128x64_S8x128x64) (funext fun k => ?_)
  match k with
  | 0 => rfl
  | 1 => rfl
  | 2 => exact congrArg BitVec.toInt (congrFun (start_v m c) (Shape.Idx.first h_S_))
  | 3 => rfl

/-- The device's four heads of the values. -/
theorem v_apply (c : Dev nD) (b : Fin 2) (h : Fin 4) (y : Fin 128) (e : Fin 64) :
    (IV m c).v (ix3 ⟨4 * b + h, by omega⟩ y e)
      = (m ((c.tc : Thread nD τ).loc main_arg3) : FVec Ideal S2x128x16x64 .bf16)
          (ix4 b y ⟨4 * c + h, by have := c.isLt; change c.val < 4 at this; omega⟩ e) := by
  rw [v_eq, start_toInt]
  pointwise []
  refine congrArg _ (ix4_congr ?_ ?_ ?_ ?_) <;> exact Fin.ext (by
    show Host.clampedStart S2x128x16x64 S2x128x4x64 _ ![0, 0, 4 * ((c : ℕ) : ℤ), 0] _ + _ = _
    rw [clamp_start]; simp)

/-- The device's columns of the query weights go in unchanged. -/
theorem q_eq (c : Dev nD) : (IV m c).q = m ((c.tc : Thread nD τ).loc main_arg1) := V1_of m c main_arg1 (by decide)

/-- So do its rows of the output weights. -/
theorem o_eq (c : Dev nD) : (IV m c).o = m ((c.tc : Thread nD τ).loc main_arg4) := V1_of m c main_arg4 (by decide)

end Cert.AttnProof

end
-- ==== Proof.RefMask.lean ====
/-
# The reference's mask

The reference numbers the 64-row blocks of the 128 positions and keeps a pair of positions when their block numbers
agree, or agree modulo 4. Of 128 positions there are two blocks, so the pair is kept exactly when the blocks agree.
-/
module

public import proofs.«01_k».proof.Proof.Gen.ReferenceIdeal.Run
public import Idealize.ShloMosaic.Lib.Pointwise
public import Idealize.ShloMosaic.Lib.Routing.OpsOrder

@[expose] public section

noncomputable section

namespace Cert.AttnProof.Ref

open Cert.ReferenceIdeal Cert.ReferenceIdeal.Gen
open Idealize.ShloMosaic

/-- The block length, 64. -/
def w64 : IVec S_ 32 := id (constantI S_ 32 64#32)

/-- The block number of each position: the printed floor division by 64. -/
def qb : IVec S128 32 :=
  select (andi (cmpi .ne (signi (iotaInDim S128 32 0)) (broadcastInDim S128 ![] bcast_S_S128 (signi w64)))
      (cmpi .ne (Host.remsi (iotaInDim S128 32 0) (broadcastInDim S128 ![] bcast_S_S128 w64))
        (broadcastInDim S128 ![] bcast_S_S128 (constantI S_ 32 0#32))))
    (subi (Host.divsi (iotaInDim S128 32 0) (broadcastInDim S128 ![] bcast_S_S128 w64))
      (broadcastInDim S128 ![] bcast_S_S128 (constantI S_ 32 1#32)))
    (Host.divsi (iotaInDim S128 32 0) (broadcastInDim S128 ![] bcast_S_S128 w64))

/-- The modulus, 4. -/
def w4 : IVec S_ 32 :=
  select (cmpi .eq (id (constantI S_ 32 4#32)) (constantI S_ 32 0#32)) (constantI S_ 32 1#32) (id (constantI S_ 32 4#32))

/-- The printed remainder of an array of words by the modulus. -/
def mod4 {s : Shape} (h : S_.BroadcastsInDim s ![]) (x : IVec s 32) : IVec s 32 :=
  select (andi (cmpi .ne (cmpi .slt (Host.remsi x (broadcastInDim s ![] h w4)) (broadcastInDim s ![] h (constantI S_ 32 0#32)))
        (broadcastInDim s ![] h (cmpi .slt w4 (constantI S_ 32 0#32))))
      (cmpi .ne (Host.remsi x (broadcastInDim s ![] h w4)) (broadcastInDim s ![] h (constantI S_ 32 0#32))))
    (addi (Host.remsi x (broadcastInDim s ![] h w4)) (broadcastInDim s ![] h w4))
    (Host.remsi x (broadcastInDim s ![] h w4))

/-- The block numbers along the rows and along the columns. -/
def qbR : IVec S128x1 32 := broadcastInDim S128x1 ![0] bcast_S128_S128x1_0 qb
def qbC : IVec S1x128 32 := broadcastInDim S1x128 ![1] bcast_S128_S1x128_1 qb

/-- The mask. -/
def mask : IVec S128x128 1 :=
  ori (cmpi .eq (broadcastInDim S128x128 ![0, 1] bcast_S128x1_S128x128_0_1 qbR)
      (broadcastInDim S128x128 ![0, 1] bcast_S1x128_S128x128_0_1 qbC))
    (cmpi .eq (broadcastInDim S128x128 ![0, 1] bcast_S1x128_S128x128_0_1 (mod4 bcast_S_S1x128 qbC))
      (broadcastInDim S128x128 ![0, 1] bcast_S128x1_S128x128_0_1 (mod4 bcast_S_S128x1 qbR)))

/-- The block number of position `i` is `i / 64`. -/
theorem qb_apply (i : Fin 128) : qb (ix1 i) = BitVec.ofNat 32 (i / 64) := by
  pointwise [qb, w64]
  revert i; decide

/-- The mask keeps a pair of positions exactly when their block numbers agree. -/
theorem mask_apply (i j : Fin 128) : mask (ix2 i j) = if (i : ℕ) / 64 = j / 64 then 1#1 else 0#1 := by
  pointwise [mask, qbR, qbC, mod4, w4, qb_apply]
  have hi : (i : ℕ) / 64 < 2 := by omega
  have hj : (j : ℕ) / 64 < 2 := by omega
  generalize (i : ℕ) / 64 = a at hi ⊢
  generalize (j : ℕ) / 64 = b at hj ⊢
  interval_cases a <;> interval_cases b <;> decide

/-- Which rows keep at least one position. -/
def keep : IVec S128 1 := Host.reduce IntOp.ori mask (constantI S_ 1 0#1) reducesTo_S128x128_S128_d1 h_S_

/-- All of them do: a position keeps itself. -/
theorem keep_apply (i : Fin 128) : keep (ix1 i) = 1#1 := by
  pointwise [keep]
  rw [Routing.fold_ori]
  exact ⟨i, Finset.mem_univ _, by rw [mask_apply]; simp⟩

end Cert.AttnProof.Ref

end
-- ==== Proof.RefValue.lean ====
/-
# The reference's result

The reference over the extended reals, at an entry: over the sixteen heads and their 64 coordinates, a head's row of
attention times an entry of the output weights.
-/
module

public import proofs.«01_k».proof.Proof.RefMask
public import proofs.«01_k».proof.Proof.Soft

@[expose] public section

noncomputable section

namespace Cert.AttnProof.Ref

open Cert.ReferenceIdeal Cert.ReferenceIdeal.Gen
open Idealize.ShloMosaic Idealize.ShloMosaic.TcCoe

section Steps

variable {F : FTy → Type} [FloatOps F]

/-- The projected queries, by head. -/
def qs (x : FVec F S2x128x512 .bf16) (wq : FVec F S512x1024 .bf16) : FVec F S2x128x16x64 .bf16 :=
  shapeCast _ (truncf .bf16 (Host.dotGeneral dot_S2x128x512_S512x1024_S2x128x1024_2_0_01_1_n_n none x wq) bitsLt_bf16_f32)
    shapeCasts_S2x128x1024_S2x128x16x64

/-- The products of queries and keys. -/
def sc (q k : FVec F S2x128x16x64 .bf16) : FVec F S2x16x128x128 .f32 :=
  extf .f32 (truncf .bf16 (Host.dotGeneral dot_S2x128x16x64_S2x128x16x64_S2x16x128x128_3_3_1_1_02_02 none q k) bitsLt_bf16_f32) bitsLt_bf16_f32

/-- The scaled, masked products. -/
def ms (s : FVec F S2x16x128x128 .f32) : FVec F S2x16x128x128 .f32 :=
  select (broadcastInDim S2x16x128x128 ![0, 1, 2, 3] bcast_S1x1x128x128_S2x16x128x128_0_1_2_3
      (broadcastInDim S1x1x128x128 ![2, 3] bcast_S128x128_S1x1x128x128_2_3 mask))
    (mulf s (broadcastInDim S2x16x128x128 ![] bcast_S_S2x16x128x128 (constant S_ .f32 0x3E000000#32)))
    (broadcastInDim S2x16x128x128 ![] bcast_S_S2x16x128x128 (id (constant S_ .f32 0xCE6E6B28#32)))

/-- The exponentials of the distances to the row's greatest entry. -/
def ew (s : FVec F S2x16x128x128 .f32) : FVec F S2x16x128x128 .f32 :=
  Host.exp (subf s (broadcastInDim S2x16x128x128 ![0, 1, 2, 3] bcast_S2x16x128x1_S2x16x128x128_0_1_2_3
    (broadcastInDim S2x16x128x1 ![0, 1, 2] bcast_S2x16x128_S2x16x128x1_0_1_2
      (Host.reduce FloatOps.maximumf s (constant S_ .f32 0xFF800000#32) reducesTo_S2x16x128x128_S2x16x128_d3 h_S_))))

/-- The rows' sums, with 1 in a row that keeps no position. -/
def sm (e : FVec F S2x16x128x128 .f32) : FVec F S2x16x128x1 .f32 :=
  select (broadcastInDim S2x16x128x1 ![0, 1, 2, 3] bcast_S1x1x128x1_S2x16x128x1_0_1_2_3 (broadcastInDim S1x1x128x1 ![2] bcast_S128_S1x1x128x1_2 keep))
    (broadcastInDim S2x16x128x1 ![0, 1, 2] bcast_S2x16x128_S2x16x128x1_0_1_2
      (Host.reduceAdd e (constant S_ .f32 0x00000000#32) reducesTo_S2x16x128x128_S2x16x128_d3 h_S_))
    (broadcastInDim S2x16x128x1 ![] bcast_S_S2x16x128x1 (id (constant S_ .f32 0x3F800000#32)))

/-- The weights, with 0 in a row that keeps no position. -/
def ws (e : FVec F S2x16x128x128 .f32) : FVec F S2x16x128x128 .f32 :=
  select (broadcastInDim S2x16x128x128 ![0, 1, 2, 3] bcast_S1x1x128x1_S2x16x128x128_0_1_2_3 (broadcastInDim S1x1x128x1 ![2] bcast_S128_S1x1x128x1_2 keep))
    (Host.divf e (broadcastInDim S2x16x128x128 ![0, 1, 2, 3] bcast_S2x16x128x1_S2x16x128x128_0_1_2_3 (sm e)))
    (broadcastInDim S2x16x128x128 ![] bcast_S_S2x16x128x128 (id (constant S_ .f32 0x00000000#32)))

/-- The weighted sums of the values, the heads side by side. -/
def ct (v : FVec F S2x128x16x64 .bf16) (w : FVec F S2x16x128x128 .f32) : FVec F S2x128x1024 .f32 :=
  shapeCast _ (transpose S2x128x16x64 [0, 3, 1, 2]
    (Host.dotGeneral dot_S2x128x16x64_S2x16x128x128_S2x16x64x128_1_3_3_2_02_01 none (extf .f32 v bitsLt_bf16_f32) w)
    transposes_S2x16x64x128_S2x128x16x64_0_3_1_2) shapeCasts_S2x128x16x64_S2x128x1024

/-- The output projection. -/
def fin (c : FVec F S2x128x1024 .f32) (o : FVec F S1024x512 .bf16) : FVec F S2x128x512 .f32 :=
  Host.dotGeneral dot_S2x128x1024_S1024x512_S2x128x512_2_0_01_1_n_n none c (extf .f32 o bitsLt_bf16_f32)

/-- The reference's result is these steps in turn. -/
theorem res_eq (m : (ℓ : Loc nD τ sig) → Buf (Elt F) ℓ) (c : Dev nD) :
    Value.res_main_v44 m c = fin (ct (m ((c.tc : Thread nD τ).loc main_arg3))
      (ws (ew (ms (sc (qs (m ((c.tc : Thread nD τ).loc main_arg0)) (m ((c.tc : Thread nD τ).loc main_arg1))) (m ((c.tc : Thread nD τ).loc main_arg2)))))))
      (m ((c.tc : Thread nD τ).loc main_arg4)) := rfl

end Steps

/-! Each step read at an entry, over the extended reals. -/

/-- The queries, at an entry. -/
theorem qs_apply (x : FVec Ideal S2x128x512 .bf16) (wq : FVec Ideal S512x1024 .bf16) (b : Fin 2) (i : Fin 128) (h : Fin 16) (e : Fin 64) :
    qs x wq (ix4 b i h e) = ∑ t, x (ix3 b i t) * wq (ix2 t ⟨h * 64 + e, by omega⟩) := by
  pointwise [qs]

/-- The products of queries and keys, at an entry. -/
theorem sc_apply (q k : FVec Ideal S2x128x16x64 .bf16) (b : Fin 2) (h : Fin 16) (i j : Fin 128) :
    sc q k (ix4 b h i j) = ∑ e, q (ix4 b i h e) * k (ix4 b j h e) := by
  pointwise [sc]

/-- The scaled, masked products, at an entry. -/
theorem ms_apply (s : FVec Ideal S2x16x128x128 .f32) (b : Fin 2) (h : Fin 16) (i j : Fin 128) :
    ms s (ix4 b h i j) = kept i j (s (ix4 b h i j)) := by
  pointwise [ms, kept, mask_apply]
  rfl

/-- The exponentials, at an entry. -/
theorem ew_apply (s : FVec Ideal S2x16x128x128 .f32) (b : Fin 2) (h : Fin 16) (i j : Fin 128) :
    ew s (ix4 b h i j) = expd (fun y => s (ix4 b h i y)) j := by
  pointwise [ew, expd]

/-- The weights, at an entry: an exponential over its row's sum. -/
theorem ws_apply (e : FVec Ideal S2x16x128x128 .f32) (b : Fin 2) (h : Fin 16) (i j : Fin 128) :
    ws e (ix4 b h i j) = Ideal.div (e (ix4 b h i j)) (∑ y, e (ix4 b h i y)) := by
  pointwise [ws, sm, keep_apply]

/-- The products with the values, at an entry. -/
theorem ct_apply (v : FVec Ideal S2x128x16x64 .bf16) (w : FVec Ideal S2x16x128x128 .f32) (b : Fin 2) (i : Fin 128) (r : Fin 1024) :
    ct v w (ix3 b i r) = ∑ j, w (ix4 b ⟨r / 64, by omega⟩ i j) * v (ix4 b j ⟨r / 64, by omega⟩ ⟨r % 64, by omega⟩) := by
  pointwise [ct]
  exact Finset.sum_congr rfl fun j _ => mul_comm _ _

/-- The product with the output weights, at an entry. -/
theorem fin_apply (c : FVec Ideal S2x128x1024 .f32) (o : FVec Ideal S1024x512 .bf16) (b : Fin 2) (i : Fin 128) (n : Fin 512) :
    fin c o (ix3 b i n) = ∑ r, c (ix3 b i r) * o (ix2 r n) := by
  pointwise [fin]

/-- One term of the reference's result: head `h`'s row of attention at coordinate `d`, times the output weight. -/
def term (x : FVec Ideal S2x128x512 .bf16) (wq : FVec Ideal S512x1024 .bf16) (k v : FVec Ideal S2x128x16x64 .bf16)
    (o : FVec Ideal S1024x512 .bf16) (b : Fin 2) (i : Fin 128) (n : Fin 512) (h : Fin 16) (d : Fin 64) : EReal :=
  headRow i (fun e => ∑ t, x (ix3 b i t) * wq (ix2 t ⟨h * 64 + e, by omega⟩)) (fun y e => k (ix4 b y h e))
    (fun y e => v (ix4 b y h e)) d * o (ix2 ⟨h * 64 + d, by omega⟩ n)

/-- The steps in turn, at an entry. -/
theorem all_apply (x : FVec Ideal S2x128x512 .bf16) (wq : FVec Ideal S512x1024 .bf16) (k v : FVec Ideal S2x128x16x64 .bf16)
    (o : FVec Ideal S1024x512 .bf16) (b : Fin 2) (i : Fin 128) (n : Fin 512) :
    fin (ct v (ws (ew (ms (sc (qs x wq) k))))) o (ix3 b i n)
      = ∑ r : Fin 1024, term x wq k v o b i n ⟨r / 64, by omega⟩ ⟨r % 64, by omega⟩ := by
  rw [fin_apply]
  refine Finset.sum_congr rfl fun r _ => ?_
  unfold term headRow soft
  simp only [ct_apply, ws_apply, ew_apply, ms_apply, sc_apply, qs_apply]
  congr 3
  exact Fin.ext (by show (r : ℕ) = r / 64 * 64 + r % 64; omega)

/-- The sum over the 1024 rows of the output weights, by heads and their coordinates. -/
theorem sum_rows (f : Fin 16 → Fin 64 → EReal) :
    ∑ r : Fin 1024, f ⟨r / 64, by omega⟩ ⟨r % 64, by omega⟩ = ∑ h, ∑ d, f h d := by
  rw [← Fintype.sum_prod_type']
  refine Fintype.sum_equiv (finProdFinEquiv (m := 16) (n := 64)).symm _ _ fun r => ?_
  rfl

/-- The sum over the sixteen heads, four at a time. -/
theorem sum_heads (f : Fin 16 → EReal) : ∑ h, f h = ∑ c : Fin 4, ∑ h : Fin 4, f ⟨4 * c + h, by omega⟩ := by
  rw [← Fintype.sum_prod_type']
  refine (Fintype.sum_equiv (finProdFinEquiv (m := 4) (n := 4)) _ _ fun p => ?_).symm
  exact congrArg f (Fin.ext (by show 4 * (p.1 : ℕ) + p.2 = p.2 + 4 * p.1; omega))

/-- The reference's result at an entry: over four groups of four heads and their 64 coordinates. -/
theorem res_apply (m : (ℓ : Loc nD τ sig) → Buf (Elt Ideal) ℓ) (c : Dev nD) (b : Fin 2) (i : Fin 128) (n : Fin 512) :
    Value.res_main_v44 m c (ix3 b i n) = ∑ g : Fin 4, ∑ h : Fin 4, ∑ d : Fin 64,
      term (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) b i n ⟨4 * g + h, by omega⟩ d := by
  rw [res_eq]
  refine (all_apply _ _ _ _ _ b i n).trans ?_
  rw [sum_rows fun h d => term _ _ _ _ _ b i n h d, sum_heads]

end Cert.AttnProof.Ref

end
-- ==== Proof.Equal.lean ====
/-
# The kernel's result is the reference's

A device's partial result is the part of the reference's sum that its four heads give, so the four devices' partial
results add up to the reference's result.
-/
module

public import proofs.«01_k».proof.Proof.HostVals
public import proofs.«01_k».proof.Proof.RefValue
public import Idealize.ShloMosaic.Lib.Layout

@[expose] public section

noncomputable section

namespace Cert.AttnProof

open Idealize.ShloMosaic Idealize.ShloMosaic.TcCoe

/-- A device's columns of the query weights, at an entry. -/
theorem cols_apply (w : (⟨2, ![512, 1024]⟩ : Shape).Idx → EReal) (c : Fin 4) (t : Fin 512) (e : Fin 256) :
    Layout.block ⟨2, ![512, 256]⟩ ⟨2, ![512, 1024]⟩ 1 4 c w (by decide) (ix2 t e) = w (ix2 t ⟨c * 256 + e, by omega⟩) := by
  rw [Layout.block_apply]
  refine congrArg w (funext fun a => ?_)
  match a with
  | 0 => rfl
  | 1 => rfl

/-- A device's rows of the output weights, at an entry. -/
theorem rows_apply (w : (⟨2, ![1024, 512]⟩ : Shape).Idx → EReal) (c : Fin 4) (r : Fin 256) (n : Fin 512) :
    Layout.block ⟨2, ![256, 512]⟩ ⟨2, ![1024, 512]⟩ 0 4 c w (by decide) (ix2 r n) = w (ix2 ⟨c * 256 + r, by omega⟩ n) := by
  rw [Layout.block_apply]
  refine congrArg w (funext fun a => ?_)
  match a with
  | 0 => rfl
  | 1 => rfl

variable (m : (ℓ : Loc Cert.KernelIdeal.nD Cert.KernelIdeal.τ Cert.KernelIdeal.sig) → Buf (Elt Ideal) ℓ)

/-- A device's partial result, in terms of the whole arguments. -/
theorem part_apply (x : FVec Ideal Cert.ReferenceIdeal.S2x128x512 .bf16) (wq : FVec Ideal Cert.ReferenceIdeal.S512x1024 .bf16)
    (k v : FVec Ideal Cert.ReferenceIdeal.S2x128x16x64 .bf16) (o : FVec Ideal Cert.ReferenceIdeal.S1024x512 .bf16)
    (c : Dev Cert.KernelIdeal.nD)
    (hx : m ((c.tc : Thread Cert.KernelIdeal.nD Cert.KernelIdeal.τ).loc Cert.KernelIdeal.main_arg0) = x)
    (hq : m ((c.tc : Thread Cert.KernelIdeal.nD Cert.KernelIdeal.τ).loc Cert.KernelIdeal.main_arg1)
      = Layout.block ⟨2, ![512, 256]⟩ ⟨2, ![512, 1024]⟩ 1 4 c wq (by decide))
    (hk : m ((c.tc : Thread Cert.KernelIdeal.nD Cert.KernelIdeal.τ).loc Cert.KernelIdeal.main_arg2) = k)
    (hv : m ((c.tc : Thread Cert.KernelIdeal.nD Cert.KernelIdeal.τ).loc Cert.KernelIdeal.main_arg3) = v)
    (ho : m ((c.tc : Thread Cert.KernelIdeal.nD Cert.KernelIdeal.τ).loc Cert.KernelIdeal.main_arg4)
      = Layout.block ⟨2, ![256, 512]⟩ ⟨2, ![1024, 512]⟩ 0 4 c o (by decide))
    (b : Fin 2) (i : Fin 128) (n : Fin 512) :
    part (IV m c) b i n = ∑ h : Fin 4, ∑ d : Fin 64,
      Ref.term x wq k v o b i n ⟨4 * c + h, by have := c.isLt; change c.val < 4 at this; omega⟩ d := by
  unfold part
  refine Finset.sum_congr rfl fun h _ => Finset.sum_congr rfl fun d _ => ?_
  unfold Ref.term
  refine congrArg₂ (· * ·) ?_ ?_
  · have e1 : (fun e : Fin 64 => ∑ t, (IV m c).x (ix2 ⟨128 * b + i, by omega⟩ t) * (IV m c).q (ix2 t ⟨64 * h + e, by omega⟩))
        = fun e : Fin 64 => ∑ t, x (ix3 b i t) * wq (ix2 t ⟨(4 * c + h) * 64 + e, by have := c.isLt; change c.val < 4 at this; omega⟩) := by
      funext e
      refine Finset.sum_congr rfl fun t _ => ?_
      rw [x_apply, hx, q_eq, hq]
      refine congrArg _ ((cols_apply wq c t _).trans (congrArg wq (congrArg (ix2 t) (Fin.ext ?_))))
      show (c : ℕ) * 256 + (64 * h + e) = (4 * c + h) * 64 + e
      omega
    have e2 : (fun (y : Fin 128) (e : Fin 64) => (IV m c).k (ix3 ⟨4 * b + h, by omega⟩ y e))
        = fun y e => k (ix4 b y ⟨4 * c + h, by have := c.isLt; change c.val < 4 at this; omega⟩ e) := by
      funext y e; rw [k_apply, hk]
    have e3 : (fun (y : Fin 128) (e : Fin 64) => (IV m c).v (ix3 ⟨4 * b + h, by omega⟩ y e))
        = fun y e => v (ix4 b y ⟨4 * c + h, by have := c.isLt; change c.val < 4 at this; omega⟩ e) := by
      funext y e; rw [v_apply, hv]
    rw [e1, e2, e3]
  · rw [o_eq, ho]
    refine (rows_apply o c _ n).trans (congrArg o (congrArg (ix2 · n) (Fin.ext ?_)))
    show (c : ℕ) * 256 + (64 * h + d) = (4 * c + h) * 64 + d
    omega

/-- Where the devices hold the whole arguments and their blocks of the weights, every device ends with the reference's result. -/
theorem result_eq (m' : (ℓ : Loc Cert.ReferenceIdeal.nD Cert.ReferenceIdeal.τ Cert.ReferenceIdeal.sig) → Buf (Elt Ideal) ℓ)
    (hin : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4)))
    (c : Dev Cert.KernelIdeal.nD) : outR (IV m) c = Cert.ReferenceIdeal.Value.res_main_v44 m' 0 := by
  refine funext fun j => ?_
  rw [show j = ix3 (j 0) (j 1) (j 2) from (funext fun a => match a with | 0 => rfl | 1 => rfl | 2 => rfl)]
  refine (outR_apply (IV m) c (j 0) (j 1) (j 2)).trans (Eq.trans ?_ (Ref.res_apply m' 0 (j 0) (j 1) (j 2)).symm)
  refine Finset.sum_congr rfl fun g _ => ?_
  obtain ⟨hx, hq, hk, hv, ho⟩ := hin g
  exact part_apply m _ _ _ _ _ g hx hq hk hv ho (j 0) (j 1) (j 2)

end Cert.AttnProof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Equal

@[expose] public section

noncomputable section

namespace Cert.Proof

open Idealize.ShloMosaic Idealize.SL.Sem

/-- The kernel read over the extended reals: every run ends, with its arguments as they were. -/
theorem frame_ideal : Cert.quiescent_KernelIdeal := fun m ρ _ =>
  (θ_run Cert.KernelIdeal.defs _ _).mono (fun r h => ⟨fun c => (h.1 c).2, h.2⟩) (Cert.AttnProof.run_main (F := Ideal) m ρ)

/-- The two printings of the kernel's body are the same program. -/
theorem body_same : Cert.Kernel.cc0_body (F := Bits) = Cert.KernelIdeal.cc0_body (F := Bits) := rfl

/-- So are the two tables that hold only the body. -/
theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- And the two whole tables. -/
theorem defs_same : Cert.Kernel.defs (F := Bits) = Cert.KernelIdeal.defs (F := Bits) := by
  unfold Cert.Kernel.defs Cert.KernelIdeal.defs
  rw [bodies_same]
  rfl

/-- The kernel as it is run, on bits: every run ends, with its arguments as they were. -/
theorem frame_kernel : Cert.quiescent_Kernel := fun m ρ _ => by
  rw [defs_same]
  exact (θ_run Cert.KernelIdeal.defs _ _).mono (fun r h => ⟨fun c => (h.1 c).2, h.2⟩)
    (Cert.AttnProof.run_main (F := Bits) m ρ)

/-- The reference ends, with its arguments as they were. -/
theorem frame_reference : Cert.quiescent_ReferenceIdeal := fun m ρ _ =>
  (θ_run Cert.ReferenceIdeal.defs _ _).mono (fun r h => ⟨fun c => (h c).2, sem_eq_zero_of_no_sems rfl _⟩)
    (Cert.ReferenceIdeal.Value.run (F := Ideal) m ρ)

/-- Over the extended reals, every device ends with the reference's result: where the devices start with the reference's
arguments, or their blocks of them, and with both programs' arguments as they were. -/
theorem algebraic_proof : Cert.algebraic_KernelIdeal_ReferenceIdeal := fun m g m' g' _ hin =>
  ⟨Cert.ReferenceIdeal.Value.res_main_v44 m' 0,
    (θ_run Cert.KernelIdeal.defs _ _).mono (fun r h c => ⟨(h.1 c).1.trans (Cert.AttnProof.result_eq m m' hin c), (h.1 c).2⟩)
      (Cert.AttnProof.run_main (F := Ideal) m g),
    (θ_run Cert.ReferenceIdeal.defs _ _).mono (fun r h => h 0) (Cert.ReferenceIdeal.Value.run (F := Ideal) m' g')⟩

/-- Everything the certificate claims. -/
theorem claim : Cert.Claim := ⟨Cert.Kernel.Gen.facts, Cert.KernelIdeal.Gen.facts, Cert.ReferenceIdeal.Gen.facts, frame_kernel, frame_ideal,
  frame_reference, trivial, algebraic_proof⟩

end Cert.Proof

end
